-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_unclipped [hPre_gates_unclipped : Cert.Pre_gates_unclipped.Facts] (m : (ℓ : Loc Cert.KernelIdeal.nD Cert.KernelIdeal.τ Cert.KernelIdeal.sig) → Buf (Elt Ideal) ℓ) : Prop :=
  ∀ c : Dev Cert.KernelIdeal.nD,
    (Cert.Pre_gates_unclipped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_unclipped [hPre_gates_unclipped : Cert.Pre_gates_unclipped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_unclipped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gates_unclipped [hKernelIdeal : Cert.KernelIdeal.Facts] [hPre_gates_unclipped : Cert.Pre_gates_unclipped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_unclipped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gates_unclipped [hReferenceIdeal : Cert.ReferenceIdeal.Facts] [hPre_gates_unclipped : Cert.Pre_gates_unclipped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_unclipped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_gates_unclipped [hKernelIdeal : Cert.KernelIdeal.Facts] [hReferenceIdeal : Cert.ReferenceIdeal.Facts] [hPre_gates_unclipped : Cert.Pre_gates_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_unclipped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_gates_unclipped : Cert.Pre_gates_unclipped.Facts),
    quiescent_Kernel (hKernel := hKernel)
    ∧ quiescent_KernelIdeal (hKernelIdeal := hKernelIdeal)
    ∧ quiescent_KernelIdeal_pre_gates_unclipped (hKernelIdeal := hKernelIdeal) (hPre_gates_unclipped := hPre_gates_unclipped)
    ∧ quiescent_ReferenceIdeal (hReferenceIdeal := hReferenceIdeal)
    ∧ quiescent_ReferenceIdeal_pre_gates_unclipped (hReferenceIdeal := hReferenceIdeal) (hPre_gates_unclipped := hPre_gates_unclipped)
    ∧ preserves_Kernel_KernelIdeal
    ∧ algebraic_KernelIdeal_ReferenceIdeal_pre_gates_unclipped (hKernelIdeal := hKernelIdeal) (hReferenceIdeal := hReferenceIdeal) (hPre_gates_unclipped := hPre_gates_unclipped)
-- ==== Pre_gates_unclipped.lean ====
abbrev S16x8192x128 : Shape := ⟨3, ![16, 8192, 128]⟩
abbrev S16x8192 : Shape := ⟨2, ![16, 8192]⟩
abbrev S8192 : Shape := ⟨1, ![8192]⟩
abbrev S64x128 : Shape := ⟨2, ![64, 128]⟩
abbrev S64 : Shape := ⟨1, ![64]⟩
abbrev S1x64 : Shape := ⟨2, ![1, 64]⟩
abbrev S1 : Shape := ⟨1, ![1]⟩
abbrev S16x8192x64 : Shape := ⟨3, ![16, 8192, 64]⟩
abbrev S1x1x64 : Shape := ⟨3, ![1, 1, 64]⟩
abbrev S16x8192x1 : Shape := ⟨3, ![16, 8192, 1]⟩
abbrev S1x1x1 : Shape := ⟨3, ![1, 1, 1]⟩
abbrev S_ : Shape := ⟨0, ![]⟩

class Facts : Prop where
  bcast_S64_S1x1x64_2 : S64.BroadcastsInDim S1x1x64 (![2] : Fin 1 → Fin S1x1x64.rank)
  bcast_S1x1x64_S16x8192x64_0_1_2 : S1x1x64.BroadcastsInDim S16x8192x64 (![0, 1, 2] : Fin 3 → Fin S16x8192x64.rank)
  bcast_S1_S1x1x1_2 : S1.BroadcastsInDim S1x1x1 (![2] : Fin 1 → Fin S1x1x1.rank)
  bcast_S1x1x1_S16x8192x1_0_1_2 : S1x1x1.BroadcastsInDim S16x8192x1 (![0, 1, 2] : Fin 3 → Fin S16x8192x1.rank)
  shapeCasts_S16x8192x1_S16x8192 : S16x8192x1.ShapeCasts S16x8192
  bcast_S_S16x8192 : S_.BroadcastsInDim S16x8192 (![] : Fin 0 → Fin S16x8192.rank)
  bcast_S_S8192 : S_.BroadcastsInDim S8192 (![] : Fin 0 → Fin S8192.rank)
  reducesTo_S16x8192_S_d0_1 : S16x8192.ReducesTo [0, 1] S_
  h_S_ : 0 < S_.numel
  reducesTo_S8192_S_d0 : S8192.ReducesTo [0] S_
  dot_S16x8192x128_S64x128_S16x8192x64_2_1_01_0_n_n_wf : DotDims.WF S16x8192x128 S64x128 S16x8192x64 [2] [1] [0, 1] [0] [] []
  dot_S16x8192x64_S1x64_S16x8192x1_2_1_01_0_n_n_wf : DotDims.WF S16x8192x64 S1x64 S16x8192x1 [2] [1] [0, 1] [0] [] []

variable [Facts]

def dot_S16x8192x128_S64x128_S16x8192x64_2_1_01_0_n_n : DotDims S16x8192x128 S64x128 S16x8192x64 where
  lhsContracting := [2]
  rhsContracting := [1]
  lhsNonContracting := [0, 1]
  rhsNonContracting := [0]
  lhsBatch := []
  rhsBatch := []
  wf := dot_S16x8192x128_S64x128_S16x8192x64_2_1_01_0_n_n_wf
def dot_S16x8192x64_S1x64_S16x8192x1_2_1_01_0_n_n : DotDims S16x8192x64 S1x64 S16x8192x1 where
  lhsContracting := [2]
  rhsContracting := [1]
  lhsNonContracting := [0, 1]
  rhsNonContracting := [0]
  lhsBatch := []
  rhsBatch := []
  wf := dot_S16x8192x64_S1x64_S16x8192x1_2_1_01_0_n_n_wf
def fn_part1 {F : FTy → Type} [FloatOps F] (main_arg2 : IVec S8192 32) (main_v16 : IVec S16x8192 1) (main_v18 : IVec S8192 1) (main_v19 : IVec S8192 32) : IVec S_ 1 :=
  let main_v20 : IVec S8192 1 := cmpi .slt main_arg2 main_v19
  let main_v21 : IVec S8192 1 := andi main_v18 main_v20
  let main_c_2 : IVec S_ 1 := constantI S_ 1 1#1
  let main_v22 : IVec S_ 1 := (fun x v => Host.reduce IntOp.andi x v reducesTo_S16x8192_S_d0_1 h_S_) main_v16 main_c_2
  let main_c_3 : IVec S_ 1 := constantI S_ 1 1#1
  let main_v23 : IVec S_ 1 := (fun x v => Host.reduce IntOp.andi x v reducesTo_S8192_S_d0 h_S_) main_v21 main_c_3
  let main_v24 : IVec S_ 1 := andi main_v22 main_v23
  main_v24

def fn {F : FTy → Type} [FloatOps F] (main_arg0 : FVec F S16x8192x128 .f32) (main_arg1 : IVec S16x8192 1) (main_arg2 : IVec S8192 32) (main_arg3 : FVec F S64x128 .f32) (main_arg4 : FVec F S64 .f32) (main_arg5 : FVec F S1x64 .f32) (main_arg6 : FVec F S1 .f32) : IVec S_ 1 :=
  let main_v0 : FVec F S16x8192x64 .f32 := (fun l r => Host.dotGeneral dot_S16x8192x128_S64x128_S16x8192x64_2_1_01_0_n_n none l r) main_arg0 main_arg3
  let main_v1 : FVec F S1x1x64 .f32 := broadcastInDim S1x1x64 ![2] bcast_S64_S1x1x64_2 main_arg4
  let main_v2 : FVec F S16x8192x64 .f32 := broadcastInDim S16x8192x64 ![0, 1, 2] bcast_S1x1x64_S16x8192x64_0_1_2 main_v1
  let main_v3 : FVec F S16x8192x64 .f32 := addf main_v0 main_v2
  let main_v4 : FVec F S16x8192x64 .f32 := Host.tanh main_v3
  let main_v5 : FVec F S16x8192x1 .f32 := (fun l r => Host.dotGeneral dot_S16x8192x64_S1x64_S16x8192x1_2_1_01_0_n_n none l r) main_v4 main_arg5
  let main_v6 : FVec F S1x1x1 .f32 := broadcastInDim S1x1x1 ![2] bcast_S1_S1x1x1_2 main_arg6
  let main_v7 : FVec F S16x8192x1 .f32 := broadcastInDim S16x8192x1 ![0, 1, 2] bcast_S1x1x1_S16x8192x1_0_1_2 main_v6
  let main_v8 : FVec F S16x8192x1 .f32 := addf main_v5 main_v7
  let main_v9 : FVec F S16x8192 .f32 := shapeCast S16x8192 main_v8 shapeCasts_S16x8192x1_S16x8192
  let main_v10 : IVec S16x8192 1 := noti main_arg1
  let main_cst : FVec F S_ .f32 := constant S_ .f32 0xC2200000#32
  let main_v11 : FVec F S16x8192 .f32 := broadcastInDim S16x8192 ![] bcast_S_S16x8192 main_cst
  let main_v12 : IVec S16x8192 1 := cmpf .oge main_v9 main_v11
  let main_cst_0 : FVec F S_ .f32 := constant S_ .f32 0x42200000#32
  let main_v13 : FVec F S16x8192 .f32 := broadcastInDim S16x8192 ![] bcast_S_S16x8192 main_cst_0
  let main_v14 : IVec S16x8192 1 := cmpf .ole main_v9 main_v13
  let main_v15 : IVec S16x8192 1 := andi main_v12 main_v14
  let main_v16 : IVec S16x8192 1 := ori main_v10 main_v15
  let main_c : IVec S_ 32 := constantI S_ 32 4294934528#32
  let main_v17 : IVec S8192 32 := broadcastInDim S8192 ![] bcast_S_S8192 main_c
  let main_v18 : IVec S8192 1 := cmpi .sge main_arg2 main_v17
  let main_c_1 : IVec S_ 32 := constantI S_ 32 32768#32
  let main_v19 : IVec S8192 32 := broadcastInDim S8192 ![] bcast_S_S8192 main_c_1
  fn_part1 (F := F) main_arg2 main_v16 main_v18 main_v19
-- ==== Kernel.lean ====
abbrev S16x8192x128 : Shape := ⟨3, ![16, 8192, 128]⟩
abbrev S16x8192 : Shape := ⟨2, ![16, 8192]⟩
abbrev S8192 : Shape := ⟨1, ![8192]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1x8192 : Shape := ⟨3, ![1, 1, 8192]⟩
abbrev S16x1x8192 : Shape := ⟨3, ![16, 1, 8192]⟩
abbrev S64x1 : Shape := ⟨2, ![64, 1]⟩
abbrev S1x1 : Shape := ⟨2, ![1, 1]⟩
abbrev S16x128x128 : Shape := ⟨3, ![16, 128, 128]⟩
abbrev S16x128x1 : Shape := ⟨3, ![16, 128, 1]⟩
abbrev S1x4096x128 : Shape := ⟨3, ![1, 4096, 128]⟩
abbrev S1x128x128 : Shape := ⟨3, ![1, 128, 128]⟩
abbrev S1x128x1 : Shape := ⟨3, ![1, 128, 1]⟩
abbrev S128x1 : Shape := ⟨2, ![128, 1]⟩
abbrev S128x128 : Shape := ⟨2, ![128, 128]⟩
abbrev S128x8192 : Shape := ⟨2, ![128, 8192]⟩
abbrev S1x8192 : Shape := ⟨2, ![1, 8192]⟩
abbrev S4096x128 : Shape := ⟨2, ![4096, 128]⟩
abbrev S64x4096 : Shape := ⟨2, ![64, 4096]⟩
abbrev S1x4096 : Shape := ⟨2, ![1, 4096]⟩
abbrev S1x1x4096 : Shape := ⟨3, ![1, 1, 4096]⟩
abbrev S128x4096 : Shape := ⟨2, ![128, 4096]⟩
abbrev S128 : Shape := ⟨1, ![128]⟩
abbrev S16x128 : Shape := ⟨2, ![16, 128]⟩
abbrev S_ : Shape := ⟨0, ![]⟩

abbrev nBuf : Space → Nat
  | .hbm => 21
  | .vmem => 18
  | .smem => 0
  | _ => 0

abbrev bufTy : (tb : Table) → Fin (tcTables nBuf tb) → BufTy
  | .hbm, ⟨0, _⟩ => ⟨S16x8192x128, .f32⟩
  | .hbm, ⟨1, _⟩ => ⟨S16x8192, .i1⟩
  | .hbm, ⟨2, _⟩ => ⟨S8192, .i32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S8192, .i16⟩
  | .hbm, ⟨8, _⟩ => ⟨S1x1x8192, .i16⟩
  | .hbm, ⟨9, _⟩ => ⟨S16x8192, .f32⟩
  | .hbm, ⟨10, _⟩ => ⟨S16x1x8192, .f32⟩
  | .hbm, ⟨11, _⟩ => ⟨S64x1, .f32⟩
  | .hbm, ⟨12, _⟩ => ⟨S1x1, .f32⟩
  | .hbm, ⟨13, _⟩ => ⟨S64x128, .bf16⟩
  | .hbm, ⟨14, _⟩ => ⟨S1x64, .bf16⟩
  | .hbm, ⟨15, _⟩ => ⟨S16x128x128, .f32⟩
  | .hbm, ⟨16, _⟩ => ⟨S16x128x1, .f32⟩
  | .hbm, ⟨17, _⟩ => ⟨S16x128, .f32⟩
  | .hbm, ⟨18, _⟩ => ⟨S_, .f32⟩
  | .hbm, ⟨19, _⟩ => ⟨S16x128, .f32⟩
  | .hbm, ⟨20, _⟩ => ⟨S16x128, .i1⟩
  | .local _ .vmem, ⟨0, _⟩ => ⟨S1x1x8192, .i16⟩
  | .local _ .vmem, ⟨1, _⟩ => ⟨S1x1x8192, .f32⟩
  | .local _ .vmem, ⟨2, _⟩ => ⟨S1x1x8192, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S64x128, .bf16⟩
  | .local _ .vmem, ⟨8, _⟩ => ⟨S64x1, .f32⟩
  | .local _ .vmem, ⟨9, _⟩ => ⟨S1x64, .bf16⟩
  | .local _ .vmem, ⟨10, _⟩ => ⟨S1x1, .f32⟩
  | .local _ .vmem, ⟨11, _⟩ => ⟨S1x128x128, .f32⟩
  | .local _ .vmem, ⟨12, _⟩ => ⟨S1x128x128, .f32⟩
  | .local _ .vmem, ⟨13, _⟩ => ⟨S1x128x1, .f32⟩
  | .local _ .vmem, ⟨14, _⟩ => ⟨S1x128x1, .f32⟩
  | .local _ .vmem, ⟨15, _⟩ => ⟨S128x1, .f32⟩
  | .local _ .vmem, ⟨16, _⟩ => ⟨S128x128, .f32⟩
  | .local _ .vmem, ⟨17, _⟩ => ⟨S128x8192, .bf16⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_55 : BitVec 32 := 0#32
  let v94 : BitVec 1 := Scalar.cmpi .eq arg1 c0_i32_55
  let v95 : BitVec 32 := Scalar.extui v94
  let c0_i32_56 : BitVec 32 := 0#32
  let v96 : BitVec 1 := Scalar.cmpi .ne v95 c0_i32_56
  v96

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1x8192 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16x8192x128 : Shape := ⟨3, ![16, 8192, 128]⟩
abbrev S16x8192 : Shape := ⟨2, ![16, 8192]⟩
abbrev S8192 : Shape := ⟨1, ![8192]⟩
abbrev S64x128 : Shape := ⟨2, ![64, 128]⟩
abbrev S64 : Shape := ⟨1, ![64]⟩
abbrev S1x64 : Shape := ⟨2, ![1, 64]⟩
abbrev S1 : Shape := ⟨1, ![1]⟩
abbrev S16x8192x64 : Shape := ⟨3, ![16, 8192, 64]⟩
abbrev S1x1x64 : Shape := ⟨3, ![1, 1, 64]⟩
abbrev S16x8192x1 : Shape := ⟨3, ![16, 8192, 1]⟩
abbrev S1x1x1 : Shape := ⟨3, ![1, 1, 1]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S1x8192x128 : Shape := ⟨3, ![1, 8192, 128]⟩
abbrev S_ : Shape := ⟨0, ![]⟩
abbrev S16x128 : Shape := ⟨2, ![16, 128]⟩
abbrev S16x1x128 : Shape := ⟨3, ![16, 1, 128]⟩
abbrev S16x128x128 : Shape := ⟨3, ![16, 128, 128]⟩

abbrev nBuf : Space → Nat
  | .hbm => 55
  | .vmem => 0
  | .smem => 0
  | _ => 0

abbrev bufTy : (tb : Table) → Fin (tcTables nBuf tb) → BufTy
  | .hbm, ⟨0, _⟩ => ⟨S16x8192x128, .f32⟩
  | .hbm, ⟨1, _⟩ => ⟨S16x8192, .i1⟩
  | .hbm, ⟨2, _⟩ => ⟨S8192, .i32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S16x8192x64, .f32⟩
  | .hbm, ⟨8, _⟩ => ⟨S1x1x64, .f32⟩
  | .hbm, ⟨9, _⟩ => ⟨S16x8192x64, .f32⟩
  | .hbm, ⟨10, _⟩ => ⟨S16x8192x64, .f32⟩
  | .hbm, ⟨11, _⟩ => ⟨S16x8192x64, .f32⟩
  | .hbm, ⟨12, _⟩ => ⟨S16x8192x1, .f32⟩
  | .hbm, ⟨13, _⟩ => ⟨S1x1x1, .f32⟩
  | .hbm, ⟨14, _⟩ => ⟨S16x8192x1, .f32⟩
  | .hbm, ⟨15, _⟩ => ⟨S16x8192x1, .f32⟩
  | .hbm, ⟨16, _⟩ => ⟨S16x8192, .f32⟩
  | .hbm, ⟨17, _⟩ => ⟨S8192x1, .i32⟩
  | .hbm, ⟨18, _⟩ => ⟨S128, .i32⟩
  | .hbm, ⟨19, _⟩ => ⟨S1x128, .i32⟩
  | .hbm, ⟨20, _⟩ => ⟨S8192x128, .i32⟩
  | .hbm, ⟨21, _⟩ => ⟨S8192x128, .i32⟩
  | .hbm, ⟨22, _⟩ => ⟨S8192x128, .i1⟩
  | .hbm, ⟨23, _⟩ => ⟨S16x8192x1, .i1⟩
  | .hbm, ⟨24, _⟩ => ⟨S1x8192x128, .i1⟩
  | .hbm, ⟨25, _⟩ => ⟨S16x8192x128, .i1⟩
  | .hbm, ⟨26, _⟩ => ⟨S16x8192x128, .i1⟩
  | .hbm, ⟨27, _⟩ => ⟨S16x8192x128, .i1⟩
  | .hbm, ⟨28, _⟩ => ⟨S16x8192x1, .f32⟩
  | .hbm, ⟨29, _⟩ => ⟨S_, .f32⟩
  | .hbm, ⟨30, _⟩ => ⟨S_, .f32⟩
  | .hbm, ⟨31, _⟩ => ⟨S16x8192x128, .f32⟩
  | .hbm, ⟨32, _⟩ => ⟨S16x8192x128, .f32⟩
  | .hbm, ⟨33, _⟩ => ⟨S16x8192x128, .f32⟩
  | .hbm, ⟨34, _⟩ => ⟨S_, .f32⟩
  | .hbm, ⟨35, _⟩ => ⟨S16x128, .f32⟩
  | .hbm, ⟨36, _⟩ => ⟨S16x1x128, .f32⟩
  | .hbm, ⟨37, _⟩ => ⟨S16x8192x128, .f32⟩
  | .hbm, ⟨38, _⟩ => ⟨S16x8192x128, .f32⟩
  | .hbm, ⟨39, _⟩ => ⟨S16x8192x128, .f32⟩
  | .hbm, ⟨40, _⟩ => ⟨S_, .f32⟩
  | .hbm, ⟨41, _⟩ => ⟨S_, .f32⟩
  | .hbm, ⟨42, _⟩ => ⟨S16x8192x128, .f32⟩
  | .hbm, ⟨43, _⟩ => ⟨S16x8192x128, .f32⟩
  | .hbm, ⟨44, _⟩ => ⟨S_, .f32⟩
  | .hbm, ⟨45, _⟩ => ⟨S16x128, .f32⟩
  | .hbm, ⟨46, _⟩ => ⟨S16x1x128, .f32⟩
  | .hbm, ⟨47, _⟩ => ⟨S_, .f32⟩
  | .hbm, ⟨48, _⟩ => ⟨S16x1x128, .f32⟩
  | .hbm, ⟨49, _⟩ => ⟨S16x1x128, .f32⟩
  | .hbm, ⟨50, _⟩ => ⟨S16x8192x128, .f32⟩
  | .hbm, ⟨51, _⟩ => ⟨S16x8192x128, .f32⟩
  | .hbm, ⟨52, _⟩ => ⟨S16x128x128, .f32⟩
  | .hbm, ⟨53, _⟩ => ⟨S_, .i1⟩
  | .hbm, ⟨54, _⟩ => ⟨S16x128, .i1⟩
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Proof.BlockValue.lean ====
/-
  What one grid point of the kernel computes, as one term over the blocks it loads.

  A grid point loads its batch's tokens (two halves of 4096), the active flags, the two weight matrices and biases,
  and the one-hot membership matrix kept in scratch. The first point builds that matrix from the channel map; the
  other fifteen find it there. Either way the two output blocks are the same two functions of what was loaded,
  `tokensOf` and `activeOf`, stated here with the case lemmas that say so.
-/
module

public import proofs.«01_k».proof.Proof.Gen.KernelIdeal.Frame
public import Idealize.ShloMosaic.Lib.Pipeline.Value
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

/-- The two zero offsets, as a constant function. -/
theorem hz2 : (![0, 0] : Fin 2 → Nat) = fun _ => 0 := funext fun a => by fin_cases a <;> rfl
/-- The three zero offsets, as a constant function. -/
theorem hz3 : (![0, 0, 0] : Fin 3 → Nat) = fun _ => 0 := funext fun a => by fin_cases a <;> rfl

/-- The active flags of tokens 0 to 4095. -/
abbrev flagsLo (x : Vec F S1x1x8192 .f32) : Vec F S1x1x4096 .f32 :=
  View.ld x (Rect.unit (s := S1x1x8192) ![0, 0, 0] S1x1x4096.size inb_S1x1x8192_S1x1x4096_0_0_0)

/-- The active flags of tokens 4096 to 8191. -/
abbrev flagsHi (x : Vec F S1x1x8192 .f32) : Vec F S1x1x4096 .f32 :=
  View.ld x (Rect.unit (s := S1x1x8192) ![0, 0, 4096] S1x1x4096.size inb_S1x1x8192_S1x1x4096_0_0_4096)

/-- The membership matrix's columns 0 to 4095. -/
abbrev memberLo (O : Vec F S128x8192 .bf16) : Vec F S128x4096 .bf16 :=
  View.ld O (Rect.unit (s := S128x8192) ![0, 0] S128x4096.size inb_S128x8192_S128x4096_0_0)

/-- The membership matrix's columns 4096 to 8191. -/
abbrev memberHi (O : Vec F S128x8192 .bf16) : Vec F S128x4096 .bf16 :=
  View.ld O (Rect.unit (s := S128x8192) ![0, 4096] S128x4096.size inb_S128x8192_S128x4096_0_4096)

/-- The unnormalised weights of the first half's tokens in every channel. -/
def massLo (x1 : Vec F S1x1x8192 .f32) (x2 : Vec F S1x4096x128 .f32) (x4 : Vec F S64x128 .bf16)
    (x5 : Vec F S64x1 .f32) (x6 : Vec F S1x64 .bf16) (x7 : Vec F S1x1 .f32) (O : Vec F S128x8192 .bf16) :
    FVec F S128x4096 .bf16 :=
  k0_pay12 (k0_pay10 x2 x4 x5) x6 x7 (flagsLo x1) (memberLo O)

/-- The unnormalised weights of the second half's tokens in every channel. -/
def massHi (x1 : Vec F S1x1x8192 .f32) (x3 : Vec F S1x4096x128 .f32) (x4 : Vec F S64x128 .bf16)
    (x5 : Vec F S64x1 .f32) (x6 : Vec F S1x64 .bf16) (x7 : Vec F S1x1 .f32) (O : Vec F S128x8192 .bf16) :
    FVec F S128x4096 .bf16 :=
  k0_pay13 (k0_pay11 x3 x4 x5) x6 x7 (flagsHi x1) (memberHi O)

/-- The total weight of every channel: both halves' row sums, added to the zeroed accumulator. -/
def totalOf (x1 : Vec F S1x1x8192 .f32) (x2 x3 : Vec F S1x4096x128 .f32) (x4 : Vec F S64x128 .bf16)
    (x5 : Vec F S64x1 .f32) (x6 : Vec F S1x64 .bf16) (x7 : Vec F S1x1 .f32) (O : Vec F S128x8192 .bf16) :
    FVec F S128x1 .f32 :=
  k0_pay1 (massHi x1 x3 x4 x5 x6 x7 O) (k0_pay14 (k0_pay10 x2 x4 x5) x6 x7 (flagsLo x1) (memberLo O)) k0_pay5

/-- The weighted token sum of every channel: both halves' products, added to the zeroed accumulator. -/
def pooledOf (x1 : Vec F S1x1x8192 .f32) (x2 x3 : Vec F S1x4096x128 .f32) (x4 : Vec F S64x128 .bf16)
    (x5 : Vec F S64x1 .f32) (x6 : Vec F S1x64 .bf16) (x7 : Vec F S1x1 .f32) (O : Vec F S128x8192 .bf16) :
    FVec F S128x128 .f32 :=
  k0_pay2 (k0_pay8 x2) (k0_pay9 x3) (massLo x1 x2 x4 x5 x6 x7 O) (massHi x1 x3 x4 x5 x6 x7 O) k0_pay6

/-- The block of channel tokens a point writes. -/
def tokensOf (x1 : Vec F S1x1x8192 .f32) (x2 x3 : Vec F S1x4096x128 .f32) (x4 : Vec F S64x128 .bf16)
    (x5 : Vec F S64x1 .f32) (x6 : Vec F S1x64 .bf16) (x7 : Vec F S1x1 .f32) (O : Vec F S128x8192 .bf16) :
    FVec F S1x128x128 .f32 :=
  k0_pay3 (totalOf x1 x2 x3 x4 x5 x6 x7 O) (pooledOf x1 x2 x3 x4 x5 x6 x7 O)

/-- The block of channel flags a point writes. -/
def activeOf (x1 : Vec F S1x1x8192 .f32) (x2 x3 : Vec F S1x4096x128 .f32) (x4 : Vec F S64x128 .bf16)
    (x5 : Vec F S64x1 .f32) (x6 : Vec F S1x64 .bf16) (x7 : Vec F S1x1 .f32) (O : Vec F S128x8192 .bf16) :
    FVec F S1x128x1 .f32 :=
  k0_pay4 (totalOf x1 x2 x3 x4 x5 x6 x7 O)

/-- Reading any rectangle of a buffer whose last store covered it whole reads that rectangle of the stored value. -/
theorem readCov_whole {S : Shape} {e : EltTy} {sig : RefSig} {κ : Kind} {sp : Space} (v : View sig κ sp S e)
    {off : Fin S.rank → Nat} (h : off = fun _ => 0) (inb : ∀ a, off a + S.size a ≤ S.size a) (w : S.Idx → Elt F e)
    (L : List (View.Piece (Elt F) S e)) (r : Rect S) :
    v.readCov ((⟨Rect.unit off (no_index S.size) inb, w⟩ : View.Piece (Elt F) S e) :: L) r.toLoadRect = View.ld w r := by
  subst h
  rw [View.readCov_eq_canon_ld, View.canon_cons_unit_zero rfl]
  intro y
  refine ⟨_, List.mem_cons_self, ?_⟩
  show y ∈ (Rect.unit (fun _ => 0) S.size inb).set
  rw [Rect.mem_set_unit]
  intro a
  exact ⟨Nat.zero_le _, by have := (y a).isLt; omega⟩

section Cases

variable (c : Dev nD) (i : grid0.Coords) (arg2 : Memref sig .tc .vmem S1x1x8192 .i16) (harg2 : arg2.IsWhole)
  (arg3 : Memref sig .tc .vmem S1x1x8192 .f32) (harg3 : arg3.IsWhole)
  (arg4 : Memref sig .tc .vmem S1x4096x128 .f32) (harg4 : arg4.IsWhole)
  (arg5 : Memref sig .tc .vmem S1x4096x128 .f32) (harg5 : arg5.IsWhole)
  (arg6 : Memref sig .tc .vmem S64x128 .bf16) (harg6 : arg6.IsWhole)
  (arg7 : Memref sig .tc .vmem S64x1 .f32) (harg7 : arg7.IsWhole)
  (arg8 : Memref sig .tc .vmem S1x64 .bf16) (harg8 : arg8.IsWhole)
  (arg9 : Memref sig .tc .vmem S1x1 .f32) (harg9 : arg9.IsWhole)
  (arg10 : Memref sig .tc .vmem S1x128x128 .f32) (harg10 : arg10.IsWhole)
  (arg11 : Memref sig .tc .vmem S1x128x1 .f32) (harg11 : arg11.IsWhole)
  (arg12 : Memref sig .tc .vmem S128x1 .f32) (harg12 : arg12.IsWhole)
  (arg13 : Memref sig .tc .vmem S128x128 .f32) (harg13 : arg13.IsWhole)
  (arg14 : Memref sig .tc .vmem S128x8192 .bf16) (harg14 : arg14.IsWhole)
  (hc0 : cond0_0 i) (hc2 : cond0_2 i)
  (x0 : Vec F S1x1x8192 .i16) (x1 : Vec F S1x1x8192 .f32) (x2 x3 : Vec F S1x4096x128 .f32)
  (x4 : Vec F S64x128 .bf16) (x5 : Vec F S64x1 .f32) (x6 : Vec F S1x64 .bf16) (x7 : Vec F S1x1 .f32)

/-- A later point writes `tokensOf` of what it loads and the membership matrix it finds. -/
theorem tokens_later (hc1 : ¬cond0_1 i) (O : Vec F S128x8192 .bf16) :
    out0_B_8 c i arg2 harg2 arg3 harg3 arg4 harg4 arg5 harg5 arg6 harg6 arg7 harg7 arg8 harg8 arg9 harg9 arg10 harg10
      arg11 harg11 arg12 harg12 arg13 harg13 arg14 harg14 hc0 hc1 hc2 x0 x1 x2 x3 x4 x5 x6 x7 O
      = tokensOf x1 x2 x3 x4 x5 x6 x7 O := by
  unfold out0_B_8
  refine (funext fun y => View.read_writes_junk_apply_eq_canon _ y _).trans ?_
  unfold kernelRun0_B
  dsimp only
  sl_unfold_words
  rw [View.canon_unit_zero hz3]
  unfold tokensOf totalOf pooledOf massLo massHi
  simp only [readCov_whole (S := S128x1) _ hz2, readCov_whole (S := S128x128) _ hz2,
    readCov_whole (S := S128x8192) _ hz2, View.readAt_eq_ld, Memref.IsWhole.read_unread,
    View.ld_unit_zero (S := S128x1) hz2, View.ld_unit_zero (S := S128x128) hz2,
    View.ld_unit_zero (S := S1x1x8192) hz3, View.ld_unit_zero (S := S1x4096x128) hz3,
    View.ld_unit_zero (S := S64x128) hz2, View.ld_unit_zero (S := S64x1) hz2,
    View.ld_unit_zero (S := S1x64) hz2, View.ld_unit_zero (S := S1x1) hz2]

/-- A later point writes `activeOf` of what it loads and the membership matrix it finds. -/
theorem active_later (hc1 : ¬cond0_1 i) (O : Vec F S128x8192 .bf16) :
    out0_B_9 c i arg2 harg2 arg3 harg3 arg4 harg4 arg5 harg5 arg6 harg6 arg7 harg7 arg8 harg8 arg9 harg9 arg10 harg10
      arg11 harg11 arg12 harg12 arg13 harg13 arg14 harg14 hc0 hc1 hc2 x0 x1 x2 x3 x4 x5 x6 x7 O
      = activeOf x1 x2 x3 x4 x5 x6 x7 O := by
  unfold out0_B_9
  refine (funext fun y => View.read_writes_junk_apply_eq_canon _ y _).trans ?_
  unfold kernelRun0_B
  dsimp only
  sl_unfold_words
  rw [View.canon_unit_zero hz3]
  unfold activeOf totalOf massHi
  simp only [readCov_whole (S := S128x1) _ hz2, readCov_whole (S := S128x128) _ hz2,
    readCov_whole (S := S128x8192) _ hz2, View.readAt_eq_ld, Memref.IsWhole.read_unread,
    View.ld_unit_zero (S := S128x1) hz2, View.ld_unit_zero (S := S128x128) hz2,
    View.ld_unit_zero (S := S1x1x8192) hz3, View.ld_unit_zero (S := S1x4096x128) hz3,
    View.ld_unit_zero (S := S64x128) hz2, View.ld_unit_zero (S := S64x1) hz2,
    View.ld_unit_zero (S := S1x64) hz2, View.ld_unit_zero (S := S1x1) hz2]

/-- The first point writes `tokensOf` of what it loads and the membership matrix it builds. -/
theorem tokens_first (hc1 : cond0_1 i) :
    out0_A_8 c i arg2 harg2 arg3 harg3 arg4 harg4 arg5 harg5 arg6 harg6 arg7 harg7 arg8 harg8 arg9 harg9 arg10 harg10
      arg11 harg11 arg12 harg12 arg13 harg13 arg14 harg14 hc0 hc1 hc2 x0 x1 x2 x3 x4 x5 x6 x7
      = tokensOf x1 x2 x3 x4 x5 x6 x7 (k0_pay7 x0) := by
  unfold out0_A_8
  refine (funext fun y => View.read_writes_junk_apply_eq_canon _ y _).trans ?_
  unfold kernelRun0_A
  dsimp only
  sl_unfold_words
  rw [View.canon_unit_zero hz3]
  unfold tokensOf totalOf pooledOf massLo massHi
  simp only [readCov_whole (S := S128x1) _ hz2, readCov_whole (S := S128x128) _ hz2,
    readCov_whole (S := S128x8192) _ hz2, View.readAt_eq_ld, Memref.IsWhole.read_unread,
    View.ld_unit_zero (S := S128x1) hz2, View.ld_unit_zero (S := S128x128) hz2,
    View.ld_unit_zero (S := S1x1x8192) hz3, View.ld_unit_zero (S := S1x4096x128) hz3,
    View.ld_unit_zero (S := S64x128) hz2, View.ld_unit_zero (S := S64x1) hz2,
    View.ld_unit_zero (S := S1x64) hz2, View.ld_unit_zero (S := S1x1) hz2]

/-- The first point writes `activeOf` of what it loads and the membership matrix it builds. -/
theorem active_first (hc1 : cond0_1 i) :
    out0_A_9 c i arg2 harg2 arg3 harg3 arg4 harg4 arg5 harg5 arg6 harg6 arg7 harg7 arg8 harg8 arg9 harg9 arg10 harg10
      arg11 harg11 arg12 harg12 arg13 harg13 arg14 harg14 hc0 hc1 hc2 x0 x1 x2 x3 x4 x5 x6 x7
      = activeOf x1 x2 x3 x4 x5 x6 x7 (k0_pay7 x0) := by
  unfold out0_A_9
  refine (funext fun y => View.read_writes_junk_apply_eq_canon _ y _).trans ?_
  unfold kernelRun0_A
  dsimp only
  sl_unfold_words
  rw [View.canon_unit_zero hz3]
  unfold activeOf totalOf massHi
  simp only [readCov_whole (S := S128x1) _ hz2, readCov_whole (S := S128x128) _ hz2,
    readCov_whole (S := S128x8192) _ hz2, View.readAt_eq_ld, Memref.IsWhole.read_unread,
    View.ld_unit_zero (S := S128x1) hz2, View.ld_unit_zero (S := S128x128) hz2,
    View.ld_unit_zero (S := S1x1x8192) hz3, View.ld_unit_zero (S := S1x4096x128) hz3,
    View.ld_unit_zero (S := S64x128) hz2, View.ld_unit_zero (S := S64x1) hz2,
    View.ld_unit_zero (S := S1x64) hz2, View.ld_unit_zero (S := S1x1) hz2]

/-- The first point leaves the membership matrix built from the channel map in scratch. -/
theorem member_first (hc1 : cond0_1 i) :
    sout0_A_2 c i arg2 harg2 arg3 harg3 arg4 harg4 arg5 harg5 arg6 harg6 arg7 harg7 arg8 harg8 arg9 harg9 arg10 harg10
      arg11 harg11 arg12 harg12 arg13 harg13 arg14 harg14 hc0 hc1 hc2 x0 x1 x2 x3 x4 x5 x6 x7
      = k0_pay7 x0 := by
  unfold sout0_A_2
  refine (funext fun y => View.read_writes_junk_apply_eq_canon _ y _).trans ?_
  unfold kernelRun0_A
  dsimp only
  sl_unfold_words
  rw [View.canon_unit_zero hz2]
  simp only [View.readAt_eq_ld, Memref.IsWhole.read_unread, View.ld_unit_zero (S := S1x1x8192) hz3]

/-- A later point leaves the membership matrix as it found it. -/
theorem member_later (hc1 : ¬cond0_1 i) (O : Vec F S128x8192 .bf16) :
    sout0_B_2 c i arg2 harg2 arg3 harg3 arg4 harg4 arg5 harg5 arg6 harg6 arg7 harg7 arg8 harg8 arg9 harg9 arg10 harg10
      arg11 harg11 arg12 harg12 arg13 harg13 arg14 harg14 hc0 hc1 hc2 x0 x1 x2 x3 x4 x5 x6 x7 O = O := rfl

end Cases

end Cert.KernelIdeal.Value
-- ==== Proof.ArrayValue.lean ====
/-
  What the kernel's two result arrays hold after the sixteen grid points, as functions of the argument buffers.

  Point `t` reads batch `t`: its row of active flags and the two halves of its tokens; every other operand is read
  whole. It writes block `t` of both output arrays, so each array ends as the blocks laid side by side.
-/
module

public import proofs.«01_k».proof.Proof.BlockValue
public import Idealize.ShloMosaic.Lib.ValueIdxCore

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (ρ : Dev nD → PrngReg)

/-! ## The blocks a point reads -/

/-- The channel map's window stays at its one block. -/
theorem index_0 : ∀ t : Fin cfg0.N, win0_0.index t = ![0, 0, 0] := by decide +kernel
/-- The flags' window follows the batch. -/
theorem index_1 : ∀ t : Fin cfg0.N, win0_1.index t = ![t.val, 0, 0] := by decide +kernel
/-- The first half's window follows the batch. -/
theorem index_2 : ∀ t : Fin cfg0.N, win0_2.index t = ![t.val, 0, 0] := by decide +kernel
/-- The second half's window follows the batch, one block further. -/
theorem index_3 : ∀ t : Fin cfg0.N, win0_3.index t = ![t.val, 1, 0] := by decide +kernel
/-- The first weights' window stays at its one block. -/
theorem index_4 : ∀ t : Fin cfg0.N, win0_4.index t = ![0, 0] := by decide +kernel
/-- The first bias's window stays at its one block. -/
theorem index_5 : ∀ t : Fin cfg0.N, win0_5.index t = ![0, 0] := by decide +kernel
/-- The second weights' window stays at its one block. -/
theorem index_6 : ∀ t : Fin cfg0.N, win0_6.index t = ![0, 0] := by decide +kernel
/-- The second bias's window stays at its one block. -/
theorem index_7 : ∀ t : Fin cfg0.N, win0_7.index t = ![0, 0] := by decide +kernel
/-- The channel tokens' window follows the batch. -/
theorem index_8 : ∀ t : Fin cfg0.N, win0_8.index t = ![t.val, 0, 0] := by decide +kernel
/-- The channel flags' window follows the batch. -/
theorem index_9 : ∀ t : Fin cfg0.N, win0_9.index t = ![t.val, 0, 0] := by decide +kernel

/-- A grid point as a batch number. -/
def batch (t : Fin cfg0.N) : Fin 16 := ⟨t.val, lt_of_lt_of_eq t.isLt N_0⟩

/-- The channel map as the kernel's region finds it. -/
def mapRow (c : Dev nD) : Vec F S1x1x8192 .i16 := V m c main_v1
/-- Batch `b`'s active flags as the region finds them. -/
def flagRow (c : Dev nD) (b : Fin 16) : Vec F S1x1x8192 .f32 := fun j => (V m c main_v3 : Vec F S16x1x8192 .f32) (ix3 b 0 (j 2))
/-- The first half of batch `b`'s tokens. -/
def tokenLo (c : Dev nD) (b : Fin 16) : Vec F S1x4096x128 .f32 := fun j =>
  (V m c main_arg0 : Vec F S16x8192x128 .f32) (ix3 b ⟨(j 1).val, by have : (j 1).val < 4096 := (j 1).isLt; omega⟩ (j 2))
/-- The second half of batch `b`'s tokens. -/
def tokenHi (c : Dev nD) (b : Fin 16) : Vec F S1x4096x128 .f32 := fun j =>
  (V m c main_arg0 : Vec F S16x8192x128 .f32) (ix3 b ⟨4096 + (j 1).val, by have : (j 1).val < 4096 := (j 1).isLt; omega⟩ (j 2))

/-- Every point reads the whole channel map. -/
theorem block_0 (c : Dev nD) (t : Fin cfg0.N) : (iblk m c 0 t : Vec F S1x1x8192 .i16) = mapRow m c := by
  funext j
  unfold iblk mapRow
  rw [View.read_apply]
  show V m c main_v1 _ = V m c main_v1 _
  congr 1
  funext a
  apply Fin.ext
  match a with
  | ⟨0, _⟩ => show win0_0.index t 0 * 1 + 1 * (j 0).val = (j 0).val; rw [index_0]; simp
  | ⟨1, _⟩ => show win0_0.index t 1 * 1 + 1 * (j 1).val = (j 1).val; rw [index_0]; simp
  | ⟨2, _⟩ => show win0_0.index t 2 * 8192 + 1 * (j 2).val = (j 2).val; rw [index_0]; simp

/-- Point `t` reads batch `t`'s active flags. -/
theorem block_1 (c : Dev nD) (t : Fin cfg0.N) : (iblk m c 1 t : Vec F S1x1x8192 .f32) = flagRow m c (batch t) := by
  funext j
  unfold iblk flagRow
  rw [View.read_apply]
  show V m c main_v3 _ = V m c main_v3 _
  congr 1
  funext a
  apply Fin.ext
  have h0 : (j 0).val < 1 := (j 0).isLt
  have h1 : (j 1).val < 1 := (j 1).isLt
  match a with
  | ⟨0, _⟩ => show win0_1.index t 0 * 1 + 1 * (j 0).val = t.val; rw [index_1]; show t.val * 1 + _ = _; omega
  | ⟨1, _⟩ => show win0_1.index t 1 * 1 + 1 * (j 1).val = 0; rw [index_1]; show 0 * 1 + _ = _; omega
  | ⟨2, _⟩ => show win0_1.index t 2 * 8192 + 1 * (j 2).val = (j 2).val; rw [index_1]; show 0 * 8192 + _ = _; omega

/-- Point `t` reads the first half of batch `t`'s tokens. -/
theorem block_2 (c : Dev nD) (t : Fin cfg0.N) : (iblk m c 2 t : Vec F S1x4096x128 .f32) = tokenLo m c (batch t) := by
  funext j
  unfold iblk tokenLo
  rw [View.read_apply]
  show V m c main_arg0 _ = V m c main_arg0 _
  congr 1
  funext a
  apply Fin.ext
  have h0 : (j 0).val < 1 := (j 0).isLt
  match a with
  | ⟨0, _⟩ => show win0_2.index t 0 * 1 + 1 * (j 0).val = t.val; rw [index_2]; show t.val * 1 + _ = _; omega
  | ⟨1, _⟩ => show win0_2.index t 1 * 4096 + 1 * (j 1).val = (j 1).val; rw [index_2]; show 0 * 4096 + _ = _; omega
  | ⟨2, _⟩ => show win0_2.index t 2 * 128 + 1 * (j 2).val = (j 2).val; rw [index_2]; show 0 * 128 + _ = _; omega

/-- Point `t` reads the second half of batch `t`'s tokens. -/
theorem block_3 (c : Dev nD) (t : Fin cfg0.N) : (iblk m c 3 t : Vec F S1x4096x128 .f32) = tokenHi m c (batch t) := by
  funext j
  unfold iblk tokenHi
  rw [View.read_apply]
  show V m c main_arg0 _ = V m c main_arg0 _
  congr 1
  funext a
  apply Fin.ext
  have h0 : (j 0).val < 1 := (j 0).isLt
  match a with
  | ⟨0, _⟩ => show win0_3.index t 0 * 1 + 1 * (j 0).val = t.val; rw [index_3]; show t.val * 1 + _ = _; omega
  | ⟨1, _⟩ => show win0_3.index t 1 * 4096 + 1 * (j 1).val = 4096 + (j 1).val; rw [index_3]; show 1 * 4096 + _ = _; omega
  | ⟨2, _⟩ => show win0_3.index t 2 * 128 + 1 * (j 2).val = (j 2).val; rw [index_3]; show 0 * 128 + _ = _; omega

/-- Every point reads the whole first weight matrix. -/
theorem block_4 (c : Dev nD) (t : Fin cfg0.N) : (iblk m c 4 t : Vec F S64x128 .bf16) = (V m c main_v6 : Vec F S64x128 .bf16) := by
  funext j
  unfold iblk
  rw [View.read_apply]
  show V m c main_v6 _ = V m c main_v6 _
  congr 1
  funext a
  apply Fin.ext
  match a with
  | ⟨0, _⟩ => show win0_4.index t 0 * 64 + 1 * (j 0).val = (j 0).val; rw [index_4]; simp
  | ⟨1, _⟩ => show win0_4.index t 1 * 128 + 1 * (j 1).val = (j 1).val; rw [index_4]; simp

/-- Every point reads the whole first bias. -/
theorem block_5 (c : Dev nD) (t : Fin cfg0.N) : (iblk m c 5 t : Vec F S64x1 .f32) = (V m c main_v4 : Vec F S64x1 .f32) := by
  funext j
  unfold iblk
  rw [View.read_apply]
  show V m c main_v4 _ = V m c main_v4 _
  congr 1
  funext a
  apply Fin.ext
  match a with
  | ⟨0, _⟩ => show win0_5.index t 0 * 64 + 1 * (j 0).val = (j 0).val; rw [index_5]; simp
  | ⟨1, _⟩ => show win0_5.index t 1 * 1 + 1 * (j 1).val = (j 1).val; rw [index_5]; simp

/-- Every point reads the whole second weight matrix. -/
theorem block_6 (c : Dev nD) (t : Fin cfg0.N) : (iblk m c 6 t : Vec F S1x64 .bf16) = (V m c main_v7 : Vec F S1x64 .bf16) := by
  funext j
  unfold iblk
  rw [View.read_apply]
  show V m c main_v7 _ = V m c main_v7 _
  congr 1
  funext a
  apply Fin.ext
  match a with
  | ⟨0, _⟩ => show win0_6.index t 0 * 1 + 1 * (j 0).val = (j 0).val; rw [index_6]; simp
  | ⟨1, _⟩ => show win0_6.index t 1 * 64 + 1 * (j 1).val = (j 1).val; rw [index_6]; simp

/-- Every point reads the second bias. -/
theorem block_7 (c : Dev nD) (t : Fin cfg0.N) : (iblk m c 7 t : Vec F S1x1 .f32) = (V m c main_v5 : Vec F S1x1 .f32) := by
  funext j
  unfold iblk
  rw [View.read_apply]
  show V m c main_v5 _ = V m c main_v5 _
  congr 1
  funext a
  apply Fin.ext
  match a with
  | ⟨0, _⟩ => show win0_7.index t 0 * 1 + 1 * (j 0).val = (j 0).val; rw [index_7]; simp
  | ⟨1, _⟩ => show win0_7.index t 1 * 1 + 1 * (j 1).val = (j 1).val; rw [index_7]; simp

/-! ## The blocks a point writes -/

/-- Batch `b`'s block of channel tokens. -/
def tokensAt (c : Dev nD) (b : Fin 16) : Vec F S1x128x128 .f32 :=
  tokensOf (flagRow m c b) (tokenLo m c b) (tokenHi m c b) (V m c main_v6) (V m c main_v4) (V m c main_v7) (V m c main_v5)
    (k0_pay7 (mapRow m c))

/-- Batch `b`'s block of channel flags. -/
def activeAt (c : Dev nD) (b : Fin 16) : Vec F S1x128x1 .f32 :=
  activeOf (flagRow m c b) (tokenLo m c b) (tokenHi m c b) (V m c main_v6) (V m c main_v4) (V m c main_v7) (V m c main_v5)
    (k0_pay7 (mapRow m c))

/-- After every point the scratch holds the membership matrix built from the channel map. -/
theorem member_eq (c : Dev nD) : ∀ (n : ℕ) (h : n < cfg0.N), (outsAt0 m c n h).2.2 = k0_pay7 (mapRow m c)
  | 0, h => by
    rw [outsAt0_A m c ⟨0, h⟩ rfl]
    dsimp only
    rw [member_first, block_0]
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [member_later]
    exact member_eq c n _

/-- Point `t` writes batch `t`'s two blocks. -/
theorem outs_eq (c : Dev nD) (t : Fin cfg0.N) :
    (outsAt0 m c t.val t.isLt).1 = tokensAt m c (batch t) ∧ (outsAt0 m c t.val t.isLt).2.1 = activeAt m c (batch t) := by
  by_cases h : t.val % 16 = 0
  · rw [outsAt0_A m c t h]
    dsimp only
    rw [tokens_first, active_first, block_0, block_1, block_2, block_3, block_4, block_5, block_6, block_7]
    exact ⟨rfl, rfl⟩
  · rw [outsAt0_B m c t h]
    dsimp only
    rw [tokens_later, active_later, member_eq, block_1, block_2, block_3, block_4, block_5, block_6, block_7]
    exact ⟨rfl, rfl⟩

/-! ## The arrays -/

/-- The array of channel tokens: each batch's block. -/
def tokensArr (c : Dev nD) : Buf (Elt F) ((c : Thread nD τ).loc main_v8_0) :=
  fun i : S16x128x128.Idx => tokensAt m c (i 0) (ix3 0 (i 1) (i 2))

/-- The array of channel flags: each batch's block. -/
def activeArr (c : Dev nD) : Buf (Elt F) ((c : Thread nD τ).loc main_v8_1) :=
  fun i : S16x128x1.Idx => activeAt m c (i 0) (ix3 0 (i 1) (i 2))

/-- What a point writes back of the channel tokens is its block of their array. -/
theorem flushed_8 (c : Dev nD) (t : Fin cfg0.N) (hf : (cfg0.win 8).flush t = true) :
    (dats m 0 c).flushed 8 t = ((cfg0.win 8).blk t).view.read (Elt F) (tokensArr m c) := by
  show (cfg0.win 8).cut (grid0.coords t) ((dats m 0 c).after 8 t) = _
  rw [after0_8, (outs_eq m c t).1]
  funext j
  rw [View.read_apply]
  have h0 : (j 0).val < 1 := (j 0).isLt
  show tokensAt m c (batch t) _ = tokensAt m c _ (ix3 0 _ _)
  congr 1
  · apply Fin.ext
    show t.val = win0_8.index t 0 * 1 + 1 * (j 0).val
    rw [index_8]; show _ = t.val * 1 + _; omega
  · funext a
    apply Fin.ext
    match a with
    | ⟨0, _⟩ => show (j 0).val = 0; omega
    | ⟨1, _⟩ => show (j 1).val = win0_8.index t 1 * 128 + 1 * (j 1).val; rw [index_8]; show _ = 0 * 128 + _; omega
    | ⟨2, _⟩ => show (j 2).val = win0_8.index t 2 * 128 + 1 * (j 2).val; rw [index_8]; show _ = 0 * 128 + _; omega

/-- What a point writes back of the channel flags is its block of their array. -/
theorem flushed_9 (c : Dev nD) (t : Fin cfg0.N) (hf : (cfg0.win 9).flush t = true) :
    (dats m 0 c).flushed 9 t = ((cfg0.win 9).blk t).view.read (Elt F) (activeArr m c) := by
  show (cfg0.win 9).cut (grid0.coords t) ((dats m 0 c).after 9 t) = _
  rw [after0_9, (outs_eq m c t).2]
  funext j
  rw [View.read_apply]
  have h0 : (j 0).val < 1 := (j 0).isLt
  show activeAt m c (batch t) _ = activeAt m c _ (ix3 0 _ _)
  congr 1
  · apply Fin.ext
    show t.val = win0_9.index t 0 * 1 + 1 * (j 0).val
    rw [index_9]; show _ = t.val * 1 + _; omega
  · funext a
    apply Fin.ext
    match a with
    | ⟨0, _⟩ => show (j 0).val = 0; omega
    | ⟨1, _⟩ => show (j 1).val = win0_9.index t 1 * 128 + 1 * (j 1).val; rw [index_9]; show _ = 0 * 128 + _; omega
    | ⟨2, _⟩ => show (j 2).val = win0_9.index t 2 * 1 + 1 * (j 2).val; rw [index_9]; show _ = 0 * 1 + _; omega

/-- The point of batch `b`. -/
def pointOf (b : Fin 16) : Fin cfg0.N := ⟨b.val, lt_of_lt_of_eq b.isLt N_0.symm⟩

/-- The token array ends holding every batch's block. -/
theorem final_8 (c : Dev nD) : (dats m 0 c).arrAt 8 cfg0.N = tokensArr m c :=
  (dats m 0 c).arrAt_eq_of_cover 8 (tokensArr m c) (flushed_8 m c) fun i =>
    ⟨pointOf (i 0), (by decide +kernel : ∀ t : Fin cfg0.N, (cfg0.win 8).flush t = true) _, by
      show i ∈ ((View.whole main_v8_0).slice (win0_8.rect (pointOf (i 0)))).set
      rw [View.set_slice_whole, Rect.mem_set_unit]
      intro a
      have h1 : (i 1 : Nat) < 128 := (i 1).isLt
      have h2 : (i 2 : Nat) < 128 := (i 2).isLt
      match a with
      | ⟨0, _⟩ => show win0_8.index (pointOf (i 0)) 0 * 1 ≤ (i 0 : Nat) ∧ (i 0 : Nat) < win0_8.index (pointOf (i 0)) 0 * 1 + 1
                  rw [index_8]; show (i 0).val * 1 ≤ (i 0 : Nat) ∧ (i 0 : Nat) < (i 0).val * 1 + 1; omega
      | ⟨1, _⟩ => show win0_8.index (pointOf (i 0)) 1 * 128 ≤ (i 1 : Nat) ∧ (i 1 : Nat) < win0_8.index (pointOf (i 0)) 1 * 128 + 128
                  rw [index_8]; show 0 * 128 ≤ (i 1 : Nat) ∧ (i 1 : Nat) < 0 * 128 + 128; omega
      | ⟨2, _⟩ => show win0_8.index (pointOf (i 0)) 2 * 128 ≤ (i 2 : Nat) ∧ (i 2 : Nat) < win0_8.index (pointOf (i 0)) 2 * 128 + 128
                  rw [index_8]; show 0 * 128 ≤ (i 2 : Nat) ∧ (i 2 : Nat) < 0 * 128 + 128; omega⟩

/-- The flag array ends holding every batch's block. -/
theorem final_9 (c : Dev nD) : (dats m 0 c).arrAt 9 cfg0.N = activeArr m c :=
  (dats m 0 c).arrAt_eq_of_cover 9 (activeArr m c) (flushed_9 m c) fun i =>
    ⟨pointOf (i 0), (by decide +kernel : ∀ t : Fin cfg0.N, (cfg0.win 9).flush t = true) _, by
      show i ∈ ((View.whole main_v8_1).slice (win0_9.rect (pointOf (i 0)))).set
      rw [View.set_slice_whole, Rect.mem_set_unit]
      intro a
      have h1 : (i 1 : Nat) < 128 := (i 1).isLt
      have h2 : (i 2 : Nat) < 1 := (i 2).isLt
      match a with
      | ⟨0, _⟩ => show win0_9.index (pointOf (i 0)) 0 * 1 ≤ (i 0 : Nat) ∧ (i 0 : Nat) < win0_9.index (pointOf (i 0)) 0 * 1 + 1
                  rw [index_9]; show (i 0).val * 1 ≤ (i 0 : Nat) ∧ (i 0 : Nat) < (i 0).val * 1 + 1; omega
      | ⟨1, _⟩ => show win0_9.index (pointOf (i 0)) 1 * 128 ≤ (i 1 : Nat) ∧ (i 1 : Nat) < win0_9.index (pointOf (i 0)) 1 * 128 + 128
                  rw [index_9]; show 0 * 128 ≤ (i 1 : Nat) ∧ (i 1 : Nat) < 0 * 128 + 128; omega
      | ⟨2, _⟩ => show win0_9.index (pointOf (i 0)) 2 * 1 ≤ (i 2 : Nat) ∧ (i 2 : Nat) < win0_9.index (pointOf (i 0)) 2 * 1 + 1
                  rw [index_9]; show 0 * 1 ≤ (i 2 : Nat) ∧ (i 2 : Nat) < 0 * 1 + 1; omega⟩

/-! ## The host's lines before and after -/

/-- The channel map the region finds: the map's low 16 bits. -/
theorem V_map (c : Dev nD) : V m c main_v1
    = shapeCast S1x1x8192 (trunci 16 (m ((c : Thread nD τ).loc main_arg2)) natLt_16_32) shapeCasts_S8192_S1x1x8192 := by
  show StableHlo.after hostOps0 (fun b => m (c, b)) _ = _
  unfold hostOps0
  after_results
  rfl

/-- The active flags the region finds: the flags as floats. -/
theorem V_flags (c : Dev nD) : V m c main_v3
    = shapeCast S16x1x8192 (uitofp .f32 (m ((c : Thread nD τ).loc main_arg1)) : FVec F S16x8192 .f32) shapeCasts_S16x8192_S16x1x8192 := by
  show StableHlo.after hostOps0 (fun b => m (c, b)) _ = _
  unfold hostOps0
  after_results
  rfl

/-- The first bias the region finds: the bias as a column. -/
theorem V_bias1 (c : Dev nD) : V m c main_v4
    = shapeCast S64x1 (m ((c : Thread nD τ).loc main_arg4) : FVec F S64 .f32) shapeCasts_S64_S64x1 := by
  show StableHlo.after hostOps0 (fun b => m (c, b)) _ = _
  unfold hostOps0
  after_results
  rfl

/-- The second bias the region finds. -/
theorem V_bias2 (c : Dev nD) : V m c main_v5
    = shapeCast S1x1 (m ((c : Thread nD τ).loc main_arg6) : FVec F S1 .f32) shapeCasts_S1_S1x1 := by
  show StableHlo.after hostOps0 (fun b => m (c, b)) _ = _
  unfold hostOps0
  after_results
  rfl

/-- The first weight matrix the region finds, in the narrower format. -/
theorem V_weight1 (c : Dev nD) : V m c main_v6
    = truncf .bf16 (m ((c : Thread nD τ).loc main_arg3) : FVec F S64x128 .f32) bitsLt_bf16_f32 := by
  show StableHlo.after hostOps0 (fun b => m (c, b)) _ = _
  unfold hostOps0
  after_results

/-- The second weight matrix the region finds, in the narrower format. -/
theorem V_weight2 (c : Dev nD) : V m c main_v7
    = truncf .bf16 (m ((c : Thread nD τ).loc main_arg5) : FVec F S1x64 .f32) bitsLt_bf16_f32 := by
  show StableHlo.after hostOps0 (fun b => m (c, b)) _ = _
  unfold hostOps0
  after_results

/-- The second result: the flag array compared with zero. -/
def activeRes (c : Dev nD) : Buf (Elt F) ((c : Thread nD τ).loc main_v11) :=
  cmpf .ogt (shapeCast S16x128 (activeArr m c : FVec F S16x128x1 .f32) shapeCasts_S16x128x1_S16x128 : FVec F S16x128 .f32)
    (broadcastInDim S16x128 ![] bcast_S_S16x128 (constant S_ .f32 0x00000000#32 : FVec F S_ .f32))

/-- The host's last lines leave the second result in its buffer. -/
theorem tail_v11 (c : Dev nD) : Pipeline.afterTail₀ cfgs (dats m) 0 (V0 m) [hostOps1] c main_v11 = activeRes m c := by
  show StableHlo.after hostOps1 (Pipeline.withArrays cfg0.spec c (V0 m c) fun w => (dats m 0 c).arrAt w cfg0.N) _ = _
  unfold hostOps1
  after_results
  have h9 : Pipeline.withArrays cfg0.spec c (V0 m c) (fun w => (dats m 0 c).arrAt w cfg0.N) (Proc.devRef .tc main_v8_1) = activeArr m c :=
    ((dats m 0 c).withArrays_arrAt sharedIn0 (V0 m c) (fun w => rfl) 9).trans (final_9 m c)
  rw [h9]
  rfl

/-- Every run of the kernel ends with the token array and the compared flag array in its two result buffers, and leaves its
    arguments as they were. -/
theorem run : θ_run defs (onTc (τ := τ) (main (F := F))) ⟨m, fun _ => 0, ρ⟩ (fun r => ∀ c : Dev nD,
      r.2.mem ((c.tc : Thread nD τ).loc main_v8_0) = tokensArr m c
      ∧ r.2.mem ((c.tc : Thread nD τ).loc main_v11) = activeRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 8).trans (final_8 m c),
      ((h c).2 main_v11 (Pipeline.mem_restRefs_of main_v11 (by decide) (by decide))).trans (tail_v11 m c),
      ((h c).1 3).trans (((dats m 0 c).arrAt_in 3 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.Value
-- ==== Proof.PayloadValue.lean ====
/-
  The kernel body's stored and rebound values, read one element at a time over the extended reals: casts are the
  identity, a product is the plain sum over its contracted axis, a clamp is a minimum of a maximum.
-/
module

public import proofs.«01_k».proof.Proof.ArrayValue
public import Idealize.ShloMosaic.Lib.ValueIdx
public import Idealize.ShloMosaic.PureOps.Ideal.Laws

@[expose] public section

set_option maxRecDepth 16384

noncomputable section

open Idealize.ShloMosaic

namespace Cert.KernelIdeal.Value

open Cert.KernelIdeal Cert.KernelIdeal.Gen

/-! ## The three products and the row sum -/

/-- The hidden layer's product contracts both feature axes. -/
theorem dotHidden (a : FVec Ideal S64x128 .bf16) (b : FVec Ideal S4096x128 .bf16) (u : Fin 64) (n : Fin 4096) :
    matmul dot_S64x128_S4096x128_S64x4096_1_1_0_0_n_n none a b (constant S64x4096 .f32 0x00000000#32) (ix2 u n)
      = ∑ k : Fin 128, (a (ix2 u k) * b (ix2 n k) : EReal) := by
  simp only [matmul]
  rw [Ideal.matmul_constant_zero_apply,
    ← Equiv.sum_comp (ValueIdx.contrEquiv1 dot_S64x128_S4096x128_S64x4096_1_1_0_0_n_n 128 rfl rfl).symm]
  refine Finset.sum_congr rfl fun k _ => congrArg₂ (fun p q : EReal => p * q) (congrArg a ?_) (congrArg b ?_)
  · funext x; refine Fin.ext ?_
    match x with
    | ⟨0, _⟩ => rfl
    | ⟨1, _⟩ => exact (DotDims.lhsIdx_val_of_single _ rfl (ix2 u n) _).trans (ValueIdx.contrEquiv1_symm_val _ 128 rfl rfl k)
  · funext x; refine Fin.ext ?_
    match x with
    | ⟨0, _⟩ => rfl
    | ⟨1, _⟩ => exact (DotDims.rhsIdx_val_of_single _ rfl (ix2 u n) _).trans (ValueIdx.contrEquiv1_symm_val _ 128 rfl rfl k)

/-- The gate's product contracts the 64 hidden units. -/
theorem dotGate (a : FVec Ideal S1x64 .bf16) (b : FVec Ideal S64x4096 .bf16) (n : Fin 4096) :
    matmul dot_S1x64_S64x4096_S1x4096_1_0_0_1_n_n none a b (constant S1x4096 .f32 0x00000000#32) (ix2 0 n)
      = ∑ k : Fin 64, (a (ix2 0 k) * b (ix2 k n) : EReal) := by
  simp only [matmul]
  rw [Ideal.matmul_constant_zero_apply,
    ← Equiv.sum_comp (ValueIdx.contrEquiv1 dot_S1x64_S64x4096_S1x4096_1_0_0_1_n_n 64 rfl rfl).symm]
  refine Finset.sum_congr rfl fun k _ => congrArg₂ (fun p q : EReal => p * q) (congrArg a ?_) (congrArg b ?_)
  · funext x; refine Fin.ext ?_
    match x with
    | ⟨0, _⟩ => rfl
    | ⟨1, _⟩ => exact (DotDims.lhsIdx_val_of_single _ rfl (ix2 0 n) _).trans (ValueIdx.contrEquiv1_symm_val _ 64 rfl rfl k)
  · funext x; refine Fin.ext ?_
    match x with
    | ⟨0, _⟩ => exact (DotDims.rhsIdx_val_of_single _ rfl (ix2 0 n) _).trans (ValueIdx.contrEquiv1_symm_val _ 64 rfl rfl k)
    | ⟨1, _⟩ => rfl

/-- The pooling product contracts the 4096 tokens of a half. -/
theorem dotPool (a : FVec Ideal S128x4096 .bf16) (b : FVec Ideal S4096x128 .bf16) (p h : Fin 128) :
    matmul dot_S128x4096_S4096x128_S128x128_1_0_0_1_n_n none a b (constant S128x128 .f32 0x00000000#32) (ix2 p h)
      = ∑ k : Fin 4096, (a (ix2 p k) * b (ix2 k h) : EReal) := by
  simp only [matmul]
  rw [Ideal.matmul_constant_zero_apply,
    ← Equiv.sum_comp (ValueIdx.contrEquiv1 dot_S128x4096_S4096x128_S128x128_1_0_0_1_n_n 4096 rfl rfl).symm]
  refine Finset.sum_congr rfl fun k _ => congrArg₂ (fun p q : EReal => p * q) (congrArg a ?_) (congrArg b ?_)
  · funext x; refine Fin.ext ?_
    match x with
    | ⟨0, _⟩ => rfl
    | ⟨1, _⟩ => exact (DotDims.lhsIdx_val_of_single _ rfl (ix2 p h) _).trans (ValueIdx.contrEquiv1_symm_val _ 4096 rfl rfl k)
  · funext x; refine Fin.ext ?_
    match x with
    | ⟨0, _⟩ => exact (DotDims.rhsIdx_val_of_single _ rfl (ix2 p h) _).trans (ValueIdx.contrEquiv1_symm_val _ 4096 rfl rfl k)
    | ⟨1, _⟩ => rfl

/-- Row `p` of a reduction over a half's 4096 tokens. -/
theorem rowSum (x : FVec Ideal S128x4096 .f32) (hφ) (hacc) (p : Fin 128) :
    shapeCast S128x1 (multiReduction .add [1] S128 x 0x00000000#32 reduces_S128x4096_S128 hφ hacc) shapeCasts_S128_S128x1 (ix2 p 0)
      = ∑ k : Fin 4096, (x (ix2 p k) : EReal) := by
  refine (shapeCast_apply _ _ (ix2 p 0) (ix1 p) ?_).trans ?_
  · rw [Shape.rowMajor_val_one, Shape.rowMajor_val_two]
    show p.val = p.val * 1 + 0
    omega
  · refine (Ideal.multiReduction_add_single x _ _ hφ hacc (ix1 p)).trans (Finset.sum_congr rfl fun k _ => congrArg x ?_)
    funext y; refine Fin.ext ?_
    match y with
    | ⟨0, _⟩ => rfl
    | ⟨1, _⟩ => rfl

/-! ## Shape changes -/

variable {α : Type}

/-- A half's tokens lose their unit batch axis. -/
theorem cast_tokens (x : S1x4096x128.Idx → α) (n : Fin 4096) (d : Fin 128) :
    shapeCast S4096x128 x shapeCasts_S1x4096x128_S4096x128 (ix2 n d) = x (ix3 0 n d) := by
  refine (shapeCast_dropUnit_apply _ x _ (ix2 n d)).trans (congrArg x ?_)
  funext a
  match a with
  | ⟨0, _⟩ => rfl
  | ⟨1, _⟩ => rfl
  | ⟨2, _⟩ => rfl

/-- A half's flags lose their unit batch axis. -/
theorem cast_flags (x : S1x1x4096.Idx → α) (n : Fin 4096) :
    shapeCast S1x4096 x shapeCasts_S1x1x4096_S1x4096 (ix2 0 n) = x (ix3 0 0 n) := by
  refine (shapeCast_dropUnit_apply _ x _ (ix2 0 n)).trans (congrArg x ?_)
  funext a
  match a with
  | ⟨0, _⟩ => rfl
  | ⟨1, _⟩ => rfl
  | ⟨2, _⟩ => rfl

/-- The channel map loses its unit batch axis. -/
theorem cast_map (x : S1x1x8192.Idx → α) (n : Fin 8192) :
    shapeCast S1x8192 x shapeCasts_S1x1x8192_S1x8192 (ix2 0 n) = x (ix3 0 0 n) := by
  refine (shapeCast_dropUnit_apply _ x _ (ix2 0 n)).trans (congrArg x ?_)
  funext a
  match a with
  | ⟨0, _⟩ => rfl
  | ⟨1, _⟩ => rfl
  | ⟨2, _⟩ => rfl

/-- The tokens' block gains a unit batch axis. -/
theorem cast_block (x : S128x128.Idx → α) (p h : Fin 128) :
    shapeCast S1x128x128 x shapeCasts_S128x128_S1x128x128 (ix3 0 p h) = x (ix2 p h) := by
  refine (shapeCast_addUnit_apply _ x _ (ix3 0 p h)).trans (congrArg x ?_)
  funext a
  match a with
  | ⟨0, _⟩ => rfl
  | ⟨1, _⟩ => rfl

/-- The activity's block gains a unit batch axis. -/
theorem cast_column (x : S128x1.Idx → α) (p : Fin 128) :
    shapeCast S1x128x1 x shapeCasts_S128x1_S1x128x1 (ix3 0 p 0) = x (ix2 p 0) := by
  refine (shapeCast_addUnit_apply _ x _ (ix3 0 p 0)).trans (congrArg x ?_)
  funext a
  match a with
  | ⟨0, _⟩ => rfl
  | ⟨1, _⟩ => rfl

/-- A column of biases is the same for every token. -/
theorem spread_bias (x : S64x1.Idx → α) (u : Fin 64) (n : Fin 4096) :
    broadcastTo S64x4096 x broadcasts_S64x1_S64x4096 (ix2 u n) = x (ix2 u 0) :=
  broadcastTo_apply x _ _ _ fun a => match a with
    | ⟨0, _⟩ => rfl
    | ⟨1, _⟩ => rfl

/-- The gate's bias is the same for every token. -/
theorem spread_unit (x : S1x1.Idx → α) (n : Fin 4096) :
    broadcastTo S1x4096 x broadcasts_S1x1_S1x4096 (ix2 0 n) = x (ix2 0 0) :=
  broadcastTo_apply x _ _ _ fun a => match a with
    | ⟨0, _⟩ => rfl
    | ⟨1, _⟩ => rfl

/-- A row over a half's tokens is the same for every channel. -/
theorem spread_half (x : S1x4096.Idx → α) (p : Fin 128) (n : Fin 4096) :
    broadcastTo S128x4096 x broadcasts_S1x4096_S128x4096 (ix2 p n) = x (ix2 0 n) :=
  broadcastTo_apply x _ _ _ fun a => match a with
    | ⟨0, _⟩ => rfl
    | ⟨1, _⟩ => rfl

/-- The channel map is the same for every channel's row. -/
theorem spread_map (x : S1x8192.Idx → α) (p : Fin 128) (n : Fin 8192) :
    broadcastTo S128x8192 x broadcasts_S1x8192_S128x8192 (ix2 p n) = x (ix2 0 n) :=
  broadcastTo_apply x _ _ _ fun a => match a with
    | ⟨0, _⟩ => rfl
    | ⟨1, _⟩ => rfl

/-- A channel's total weight is the same for every feature. -/
theorem spread_total (x : S128x1.Idx → α) (p h : Fin 128) :
    broadcastTo S128x128 x broadcasts_S128x1_S128x128 (ix2 p h) = x (ix2 p 0) :=
  broadcastTo_apply x _ _ _ fun a => match a with
    | ⟨0, _⟩ => rfl
    | ⟨1, _⟩ => rfl

/-! ## The values -/

/-- The tokens of a half as a matrix. -/
theorem tokens_apply (v8 : FVec Ideal S1x4096x128 .f32) (n : Fin 4096) (d : Fin 128) :
    k0_pay8 (F := Ideal) v8 (ix2 n d) = v8 (ix3 0 n d) := cast_tokens v8 n d

/-- The hidden layer: `tanh` of the product plus the bias. -/
theorem hidden_apply (v8 : FVec Ideal S1x4096x128 .f32) (v14 : FVec Ideal S64x128 .bf16) (v20 : FVec Ideal S64x1 .f32) (u : Fin 64) (n : Fin 4096) :
    k0_pay10 (F := Ideal) v8 v14 v20 (ix2 u n)
      = Ideal.tanh ((∑ k : Fin 128, (v14 (ix2 u k) * v8 (ix3 0 n k) : EReal)) + v20 (ix2 u 0)) := by
  refine congrArg Ideal.tanh (congrArg₂ (fun p q : EReal => p + q) ?_ ?_)
  · refine (dotHidden _ (k0_pay8 v8) u n).trans (Finset.sum_congr rfl fun k _ => ?_)
    exact congrArg₂ (fun p q : EReal => p * q) (congrFun (shapeCast_self v14 _) (ix2 u k)) (tokens_apply v8 n k)
  · exact (spread_bias _ u n).trans (congrFun (shapeCast_self v20 _) (ix2 u 0))

/-- A token's weight in a channel's row: the membership times the exponentiated clamped gate times the flag. -/
theorem mass_apply (v25 : FVec Ideal S64x4096 .bf16) (v32 : FVec Ideal S1x64 .bf16) (v35 : FVec Ideal S1x1 .f32) (v51 : FVec Ideal S1x1x4096 .f32)
    (v64 : FVec Ideal S128x4096 .bf16) (p : Fin 128) (n : Fin 4096) :
    k0_pay12 (F := Ideal) v25 v32 v35 v51 v64 (ix2 p n)
      = (v64 (ix2 p n) * (Ideal.exp (min (Ideal.ofBits .f32 0x42200000#32) (max (Ideal.ofBits .f32 0xC2200000#32)
          ((∑ k : Fin 64, (v32 (ix2 0 k) * v25 (ix2 k n) : EReal)) + v35 (ix2 0 0)))) * v51 (ix3 0 0 n)) : EReal) := by
  refine congrArg (fun q : EReal => (v64 (ix2 p n) * q : EReal)) ((spread_half _ p n).trans ?_)
  refine congrArg₂ (fun a b : EReal => Ideal.exp (min (Ideal.ofBits .f32 0x42200000#32) (max (Ideal.ofBits .f32 0xC2200000#32) a)) * b) ?_ (cast_flags v51 n)
  refine congrArg₂ (fun a b : EReal => a + b) ?_ ((spread_unit _ n).trans (congrFun (shapeCast_self v35 _) (ix2 0 0)))
  exact (dotGate _ v25 n).trans (Finset.sum_congr rfl fun k _ =>
    congrArg (fun a : EReal => (a * v25 (ix2 k n) : EReal)) (congrFun (shapeCast_self v32 _) (ix2 0 k)))

/-- The total weight: what was there plus the sums of the two halves. -/
theorem total_apply (v69 : FVec Ideal S128x4096 .bf16) (v70 : FVec Ideal S128x4096 .f32) (v78 : FVec Ideal S128x1 .f32) (p : Fin 128) :
    k0_pay1 (F := Ideal) v69 v70 v78 (ix2 p 0)
      = (v78 (ix2 p 0) + ((Ideal.ofBits .f32 0x00000000#32 + ∑ k : Fin 4096, v70 (ix2 p k)) + ∑ k : Fin 4096, v69 (ix2 p k)) : EReal) := by
  unfold k0_pay1
  refine (congrFun (shapeCast_self _ shapeCasts_S128x1_S128x1) (ix2 p 0)).trans ?_
  exact congrArg₂ (fun a b : EReal => (v78 (ix2 p 0) + ((Ideal.ofBits .f32 0x00000000#32 + a) + b) : EReal))
    (rowSum v70 _ _ p) (rowSum (extf .f32 v69 bitsLt_bf16_f32) _ _ p)

/-- The pooled sum: what was there plus the products of the two halves. -/
theorem pooled_apply (v10 v13 : FVec Ideal S4096x128 .bf16) (v66 v69 : FVec Ideal S128x4096 .bf16) (v86 : FVec Ideal S128x128 .f32) (p h : Fin 128) :
    k0_pay2 (F := Ideal) v10 v13 v66 v69 v86 (ix2 p h)
      = (v86 (ix2 p h) + ((Ideal.ofBits .f32 0x00000000#32 + ∑ k : Fin 4096, (v66 (ix2 p k) * v10 (ix2 k h) : EReal))
          + ∑ k : Fin 4096, (v69 (ix2 p k) * v13 (ix2 k h) : EReal)) : EReal) := by
  unfold k0_pay2
  refine (congrFun (shapeCast_self _ shapeCasts_S128x128_S128x128) (ix2 p h)).trans ?_
  exact congrArg₂ (fun a b : EReal => (v86 (ix2 p h) + ((Ideal.ofBits .f32 0x00000000#32 + a) + b) : EReal))
    (dotPool v66 v10 p h) (dotPool v69 v13 p h)

/-- The first result's block: the pooled sum over the total weight, the latter kept away from zero. -/
theorem quotient_apply (v97 : FVec Ideal S128x1 .f32) (v98 : FVec Ideal S128x128 .f32) (p h : Fin 128) :
    k0_pay3 (F := Ideal) v97 v98 (ix3 0 p h)
      = Ideal.div (v98 (ix2 p h)) (max (v97 (ix2 p 0)) (Ideal.ofBits .f32 0x0DA24260#32)) := by
  unfold k0_pay3
  refine (cast_block _ p h).trans ?_
  exact congrArg (Ideal.div (v98 (ix2 p h))) (spread_total _ p h)

/-- The second result's block: the comparison of the total weight with zero, as a number. -/
theorem flag_apply (v97 : FVec Ideal S128x1 .f32) (p : Fin 128) :
    k0_pay4 (F := Ideal) v97 (ix3 0 p 0)
      = ((((Ideal.cmp .ogt (v97 (ix2 p 0)) (Ideal.ofBits .f32 0x00000000#32)).setWidth 32).toInt : ℝ) : EReal) := by
  unfold k0_pay4
  exact cast_column _ p

/-- The membership matrix: one where the token's channel is the row's number, zero elsewhere. -/
theorem member_apply (v98 : IVec S1x1x8192 16) (p : Fin 128) (n : Fin 8192) :
    k0_pay7 (F := Ideal) v98 (ix2 p n)
      = Scalar.select (IntOp.cmpi .eq (v98 (ix3 0 0 n)) (BitVec.ofNat 16 p.val)) (Ideal.ofBits .bf16 0x3F80#16) (Ideal.ofBits .bf16 0x0000#16) := by
  unfold k0_pay7
  refine (congrFun (shapeCast_self _ shapeCasts_S128x8192_S128x8192) (ix2 p n)).trans ?_
  exact congrArg₂ (fun a b => Scalar.select (IntOp.cmpi .eq a b) (Ideal.ofBits .bf16 0x3F80#16) (Ideal.ofBits .bf16 0x0000#16))
    ((spread_map _ p n).trans (cast_map v98 n)) (iota_single_apply .tc S128x8192 16 0 iota_S128x8192_d0_w16 (ix2 p n))

/-- The second half's values are computed the way the first half's are. -/
theorem second_half {F : FTy → Type} [FloatOps F] :
    (k0_pay9 (F := F) = k0_pay8) ∧ (k0_pay11 (F := F) = k0_pay10) ∧ (k0_pay13 (F := F) = k0_pay12) := ⟨rfl, rfl, rfl⟩

end Cert.KernelIdeal.Value

end
-- ==== Proof.Softmax.lean ====
/-
  Two ways to write one channel's softmax, over the extended reals.

  `s n` says that token `n` is an active member of the channel, `g n` is its gate and `x n` one feature of it. One side
  exponentiates the gates as they are and divides the weighted sum once; the other subtracts the channel's largest gate
  first and divides every weight. They agree when the members' gates lie in [-40, 40], and no bound on the features
  is needed.
-/
module

public import Idealize.ShloMosaic.PureOps.Ideal.Laws

@[expose] public section

noncomputable section

open Idealize.ShloMosaic

namespace Cert.Softmax

/-- The ideal exponential of a real number is the real exponential. -/
theorem exp_coe (r : ℝ) : Ideal.exp (r : EReal) = ((Real.exp r : ℝ) : EReal) := rfl

/-- A sum times a nonnegative real constant is the sum of the products, whatever the terms are. -/
theorem sum_mul_coe {ι : Type} (t : Finset ι) (f : ι → EReal) {a : ℝ} (ha : 0 ≤ a) :
    (∑ n ∈ t, f n) * (a : EReal) = ∑ n ∈ t, f n * (a : EReal) := by
  classical
  induction t using Finset.induction_on with
  | empty => simp
  | insert n t hn ih =>
    rw [Finset.sum_insert hn, Finset.sum_insert hn,
      EReal.right_distrib_of_nonneg_of_ne_top (by exact_mod_cast ha) (EReal.coe_ne_top a), ih]

/-- A sum of reals, taken in the extended reals. -/
theorem coe_sum {ι : Type} (t : Finset ι) (f : ι → ℝ) : ∑ n ∈ t, (f n : EReal) = ((∑ n ∈ t, f n : ℝ) : EReal) := by
  classical
  induction t using Finset.induction_on with
  | empty => simp
  | insert n t hn ih => rw [Finset.sum_insert hn, Finset.sum_insert hn, ih, EReal.coe_add]

/-- A number between two reals is a real. -/
theorem exists_coe {y : EReal} {a b : ℝ} (ha : (a : EReal) ≤ y) (hb : y ≤ (b : EReal)) : ∃ r : ℝ, y = (r : EReal) ∧ a ≤ r ∧ r ≤ b := by
  induction y using EReal.rec with
  | bot => exact absurd ha (not_le.2 (EReal.bot_lt_coe a))
  | top => exact absurd hb (not_le.2 (EReal.coe_lt_top b))
  | coe r => exact ⟨r, rfl, by exact_mod_cast ha, by exact_mod_cast hb⟩

/-- The exponential of -40 is at least 2 to the power -80. -/
theorem exp_lower : (1 / 2 ^ 80 : ℝ) ≤ Real.exp (-40) := by
  have h : (1 / 2 : ℝ) ≤ Real.exp (-(1 / 2)) := by
    have := Real.add_one_le_exp (-(1 / 2) : ℝ)
    linarith
  have h1 : Real.exp (-40) = Real.exp (-(1 / 2)) ^ 80 := by rw [← Real.exp_nat_mul]; norm_num
  rw [h1, ← one_div_pow]
  exact pow_le_pow_left₀ (by norm_num) h 80

variable {ι : Type} [Fintype ι] (s : ι → Prop) [DecidablePred s] (g : ι → EReal)

/-- A token's weight with nothing subtracted: its exponentiated gate, or zero. -/
def mass (n : ι) : EReal := if s n then Ideal.exp (g n) else 0

/-- The gate a token shows to its channel: its own, or the filler `low`. -/
def shown (low : EReal) (n : ι) : EReal := if s n then g n else low

/-- The channel's largest shown gate. -/
def peak (low : EReal) : EReal := (Finset.univ : Finset ι).fold max ⊥ (shown s g low)

/-- A token's weight with the largest gate subtracted. -/
def weight (low : EReal) (n : ι) : EReal := if s n then Ideal.exp (shown s g low n - peak s g low) else 0

variable {s g}

/-- Without an active member every weight is zero. -/
theorem mass_none (h : ¬∃ n, s n) (n : ι) : mass s g n = 0 := if_neg fun hn => h ⟨n, hn⟩

/-- Without an active member every shifted weight is zero. -/
theorem weight_none (h : ¬∃ n, s n) (low : EReal) (n : ι) : weight s g low n = 0 := if_neg fun hn => h ⟨n, hn⟩

/-- The weights are reals: zero off the members, at least `exp (-40)` on them. -/
theorem mass_real (hg : ∀ n, s n → ((-40 : ℝ) : EReal) ≤ g n ∧ g n ≤ ((40 : ℝ) : EReal)) :
    ∃ q : ι → ℝ, (∀ n, mass s g n = (q n : EReal)) ∧ (∀ n, 0 ≤ q n) ∧ ∀ n, s n → Real.exp (-40) ≤ q n := by
  have h : ∀ n, ∃ r : ℝ, mass s g n = (r : EReal) ∧ 0 ≤ r ∧ (s n → Real.exp (-40) ≤ r) := by
    intro n
    by_cases hn : s n
    · obtain ⟨r, hr, hl, _⟩ := exists_coe (hg n hn).1 (hg n hn).2
      refine ⟨Real.exp r, ?_, (Real.exp_pos r).le, fun _ => Real.exp_le_exp.2 hl⟩
      rw [mass, if_pos hn, hr, exp_coe]
    · exact ⟨0, by rw [mass, if_neg hn]; rfl, le_refl 0, fun h => absurd h hn⟩
  choose q h1 h2 h3 using h
  exact ⟨q, h1, h2, h3⟩

/-- The total weight of a channel is positive exactly when some active token belongs to it. -/
theorem total_pos (hg : ∀ n, s n → ((-40 : ℝ) : EReal) ≤ g n ∧ g n ≤ ((40 : ℝ) : EReal)) :
    0 < ∑ n, mass s g n ↔ ∃ n, s n := by
  obtain ⟨q, hq, h0, hs⟩ := mass_real hg
  constructor
  · intro h
    by_contra hn
    rw [Finset.sum_eq_zero fun n _ => mass_none hn n] at h
    exact lt_irrefl _ h
  · rintro ⟨n, hn⟩
    rw [Finset.sum_congr rfl fun k _ => hq k, coe_sum]
    have h1 : q n ≤ ∑ k, q k := Finset.single_le_sum (fun k _ => h0 k) (Finset.mem_univ n)
    exact_mod_cast lt_of_lt_of_le (Real.exp_pos (-40)) ((hs n hn).trans h1)

/-- With an active member the peak is a real that some member's gate attains. -/
theorem peak_real (hg : ∀ n, s n → ((-40 : ℝ) : EReal) ≤ g n ∧ g n ≤ ((40 : ℝ) : EReal)) {low : EReal}
    (hlow : low < ((-40 : ℝ) : EReal)) (h : ∃ n, s n) :
    ∃ n, s n ∧ peak s g low = g n := by
  obtain ⟨k, hk⟩ := h
  have hp : peak s g low = (Finset.univ : Finset ι).sup (shown s g low) := rfl
  obtain ⟨n, _, hn⟩ := Finset.exists_mem_eq_sup (Finset.univ : Finset ι) ⟨k, Finset.mem_univ k⟩ (shown s g low)
  have hs : s n := by
    by_contra hsn
    have h1 : shown s g low k ≤ shown s g low n := by rw [← hn]; exact Finset.le_sup (Finset.mem_univ k)
    rw [shown, if_pos hk, shown, if_neg hsn] at h1
    exact absurd ((hg k hk).1.trans h1) (not_le.2 hlow)
  exact ⟨n, hs, by rw [hp, hn, shown, if_pos hs]⟩

/-- With an active member the shifted weights are the plain ones times one positive real, and sum to at least 1. -/
theorem weight_scaled (hg : ∀ n, s n → ((-40 : ℝ) : EReal) ≤ g n ∧ g n ≤ ((40 : ℝ) : EReal)) {low : EReal}
    (hlow : low < ((-40 : ℝ) : EReal)) (h : ∃ n, s n) {q : ι → ℝ} (hq : ∀ n, mass s g n = (q n : EReal)) (h0 : ∀ n, 0 ≤ q n) :
    ∃ a : ℝ, 0 < a ∧ (∀ n, weight s g low n = ((q n * a : ℝ) : EReal)) ∧ 1 ≤ ∑ n, q n * a := by
  obtain ⟨k, hk, hpk⟩ := peak_real hg hlow h
  obtain ⟨M, hM, _, _⟩ := exists_coe (hg k hk).1 (hg k hk).2
  have hw : ∀ n, weight s g low n = ((q n * Real.exp (-M) : ℝ) : EReal) := by
    intro n
    by_cases hn : s n
    · obtain ⟨r, hr, _, _⟩ := exists_coe (hg n hn).1 (hg n hn).2
      have hqn : q n = Real.exp r := by
        have := hq n
        rw [mass, if_pos hn, hr, exp_coe] at this
        exact (EReal.coe_injective this).symm
      rw [weight, if_pos hn, shown, if_pos hn, hpk, hr, hM, ← EReal.coe_sub, exp_coe, hqn, ← Real.exp_add, sub_eq_add_neg]
    · have hqn : q n = 0 := by
        have := hq n
        rw [mass, if_neg hn] at this
        exact (EReal.coe_injective this).symm
      rw [weight, if_neg hn, hqn, zero_mul]; rfl
  refine ⟨Real.exp (-M), Real.exp_pos _, hw, ?_⟩
  have hk1 : q k * Real.exp (-M) = 1 := by
    have := hw k
    rw [weight, if_pos hk, shown, if_pos hk, hpk, hM, ← EReal.coe_sub, exp_coe, sub_self, Real.exp_zero] at this
    exact (EReal.coe_injective this).symm
  rw [← hk1]
  exact Finset.single_le_sum (f := fun n => q n * Real.exp (-M)) (fun n _ => mul_nonneg (h0 n) (Real.exp_pos _).le) (Finset.mem_univ k)

/-- The channel's feature: the weighted sum divided once by the total weight equals the sum with every shifted weight
    divided by their total, both totals kept away from zero by the same small `ε`. -/
theorem pooled_eq (hg : ∀ n, s n → ((-40 : ℝ) : EReal) ≤ g n ∧ g n ≤ ((40 : ℝ) : EReal)) {low : EReal}
    (hlow : low < ((-40 : ℝ) : EReal)) {ε : ℝ} (hε : 0 < ε) (hε' : ε ≤ 1 / 2 ^ 80) (x : ι → EReal) :
    Ideal.div (∑ n, mass s g n * x n) (max (∑ n, mass s g n) (ε : EReal))
      = ∑ n, Ideal.div (weight s g low n) (max (∑ k, weight s g low k) (ε : EReal)) * x n := by
  by_cases h : ∃ n, s n
  · obtain ⟨q, hq, h0, hs⟩ := mass_real hg
    obtain ⟨a, ha, hw, hw1⟩ := weight_scaled hg hlow h hq h0
    obtain ⟨k, hk⟩ := h
    have hD : Real.exp (-40) ≤ ∑ n, q n :=
      (hs k hk).trans (Finset.single_le_sum (fun n _ => h0 n) (Finset.mem_univ k))
    have hεD : ε ≤ ∑ n, q n := hε'.trans (exp_lower.trans hD)
    have hQ : 0 < ∑ n, q n := hε.trans_le hεD
    have hεW : ε ≤ ∑ n, q n * a := le_trans (hε'.trans (by norm_num)) hw1
    have e1 : max (∑ n, mass s g n) (ε : EReal) = ((∑ n, q n : ℝ) : EReal) := by
      rw [Finset.sum_congr rfl fun n _ => hq n, coe_sum]
      exact max_eq_left (by exact_mod_cast hεD)
    have e2 : max (∑ n, weight s g low n) (ε : EReal) = ((∑ n, q n * a : ℝ) : EReal) := by
      rw [Finset.sum_congr rfl fun n _ => hw n, coe_sum]
      exact max_eq_left (by exact_mod_cast hεW)
    have hW0 : ∑ n, q n * a ≠ 0 := (lt_of_lt_of_le zero_lt_one hw1).ne'
    rw [e1, e2, Ideal.div_coe hQ.ne', sum_mul_coe _ _ (one_div_pos.2 hQ).le]
    refine Finset.sum_congr rfl fun n _ => ?_
    rw [Ideal.div_coe hW0, hw n, hq n, ← EReal.coe_mul, mul_right_comm, ← EReal.coe_mul]
    congr 2
    rw [← Finset.sum_mul] at hW0 ⊢
    field_simp
  · have e1 : ∀ n, mass s g n = 0 := mass_none h
    have e2 : ∀ n, weight s g low n = 0 := weight_none h low
    simp only [e1, e2, zero_mul, Finset.sum_const_zero]
    have e3 : max (0 : EReal) (ε : EReal) = (ε : EReal) := max_eq_right (by exact_mod_cast hε.le)
    rw [e3, Ideal.div_coe hε.ne']
    simp

/-- The clamp to [-40, 40] leaves a number of that interval as it is. -/
theorem clamp_eq {y : EReal} (h1 : ((-40 : ℝ) : EReal) ≤ y) (h2 : y ≤ ((40 : ℝ) : EReal)) :
    min ((40 : ℝ) : EReal) (max ((-40 : ℝ) : EReal) y) = y := by
  rw [max_eq_right h1, min_eq_right h2]

end Cert.Softmax

end
-- ==== Proof.Spec.lean ====
/-
  The vocabulary both programs are read in: a token's gate, its membership of a channel, and the literals.
-/
module

public import proofs.«01_k».proof.Proof.Softmax
public import Idealize.ShloMosaic.Lib.Pointwise.Index

@[expose] public section

noncomputable section

open Idealize.ShloMosaic

namespace Cert.Spec

/-! ## The arguments' types -/

/-- The tokens' features. -/
abbrev Tokens : Type := FVec Ideal ⟨3, ![16, 8192, 128]⟩ .f32
/-- The tokens' active flags. -/
abbrev Flags : Type := IVec ⟨2, ![16, 8192]⟩ 1
/-- The tokens' channel indices. -/
abbrev Channels : Type := IVec ⟨1, ![8192]⟩ 32
/-- The first layer's weights. -/
abbrev Weight1 : Type := FVec Ideal ⟨2, ![64, 128]⟩ .f32
/-- The first layer's bias. -/
abbrev Bias1 : Type := FVec Ideal ⟨1, ![64]⟩ .f32
/-- The second layer's weights. -/
abbrev Weight2 : Type := FVec Ideal ⟨2, ![1, 64]⟩ .f32
/-- The second layer's bias. -/
abbrev Bias2 : Type := FVec Ideal ⟨1, ![1]⟩ .f32

/-- The gate of token `n` of batch `b`: a two-layer network of its features. -/
def gate (x0 : Tokens) (x3 : Weight1) (x4 : Bias1) (x5 : Weight2) (x6 : Bias2) (b : Fin 16) (n : Fin 8192) : EReal :=
  (∑ u : Fin 64, (Ideal.tanh ((∑ d : Fin 128, (x0 (ix3 b n d) * x3 (ix2 u d) : EReal)) + x4 (ix1 u)) * x5 (ix2 0 u) : EReal)) + x6 (ix1 0)

/-- Token `n` of batch `b` is active and belongs to channel `p`. -/
def Member (x1 : Flags) (x2 : Channels) (b : Fin 16) (p : Fin 128) (n : Fin 8192) : Prop :=
  x1 (ix2 b n) = 1#1 ∧ x2 (ix1 n) = BitVec.ofNat 32 p.val

instance (x1 : Flags) (x2 : Channels) (b : Fin 16) (p : Fin 128) : DecidablePred (Member x1 x2 b p) :=
  fun n => inferInstanceAs (Decidable (x1 (ix2 b n) = 1#1 ∧ x2 (ix1 n) = BitVec.ofNat 32 p.val))

/-- The filler a non-member shows. -/
def low : EReal := Ideal.ofBits .f32 0xF149F2CA#32
/-- The number a total is kept above. -/
def floor : EReal := Ideal.ofBits .f32 0x0DA24260#32

/-! ## The literals -/

/-- The clamp's upper bound is 40. -/
theorem forty : Ideal.ofBits .f32 0x42200000#32 = ((40 : ℝ) : EReal) := by
  simp [Ideal.ofBits, Ideal.ieee, -EReal.coe_mul]
  norm_num

/-- The clamp's lower bound is -40. -/
theorem minus_forty : Ideal.ofBits .f32 0xC2200000#32 = ((-40 : ℝ) : EReal) := by
  simp [Ideal.ofBits, Ideal.ieee, -EReal.coe_mul]
  norm_num

/-- The membership matrix's one is 1. -/
theorem one_narrow : Ideal.ofBits .bf16 0x3F80#16 = 1 := by
  simp [Ideal.ofBits, Ideal.ieee, -EReal.coe_mul]
  norm_num

/-- The membership matrix's zero is 0. -/
theorem zero_narrow : Ideal.ofBits .bf16 0x0000#16 = 0 := by
  simp [Ideal.ofBits, Ideal.ieee]

/-- The maximum's starting value is the least extended real. -/
theorem bottom : Ideal.ofBits .f32 0xFF800000#32 = ⊥ := by
  simp [Ideal.ofBits, Ideal.ieee]

/-- The filler lies below every allowed gate. -/
theorem low_lt : low < ((-40 : ℝ) : EReal) := by
  unfold low
  simp [Ideal.ofBits, Ideal.ieee, -EReal.coe_mul]
  norm_num

/-- The floor is a small positive real. -/
theorem floor_real : ∃ ε : ℝ, floor = (ε : EReal) ∧ 0 < ε ∧ ε ≤ 1 / 2 ^ 80 := by
  unfold floor
  simp [Ideal.ofBits, Ideal.ieee, -EReal.coe_mul]
  norm_num

end Cert.Spec

end
-- ==== Proof.KernelValue.lean ====
/-
  The kernel's two results read at an index, as sums over all 8192 tokens of the members' unnormalised weights.
-/
module

public import proofs.«01_k».proof.Proof.PayloadValue
public import proofs.«01_k».proof.Proof.Spec
public import Idealize.ShloMosaic.Lib.Affine
public import Idealize.ShloMosaic.Lib.WordCmp

@[expose] public section

set_option maxRecDepth 16384

noncomputable section

open Idealize.ShloMosaic Idealize.ShloMosaic.TcCoe Idealize.SL.Sem

namespace Cert.KernelIdeal.Value

open Cert.KernelIdeal Cert.KernelIdeal.Gen Cert.Spec

/-! ## Two facts on words -/

/-- A signed 16-bit channel index survives the narrowing: it equals a channel's number before when it does after. -/
theorem narrow_eq (x : BitVec 32) (h : -32768 ≤ x.toInt ∧ x.toInt < 32768) (p : Fin 128) :
    x.setWidth 16 = BitVec.ofNat 16 p.val ↔ x = BitVec.ofNat 32 p.val := by
  have hp := p.isLt
  have hx := x.isLt
  rw [BitVec.toInt_eq_toNat_cond] at h
  constructor
  · intro e
    have e' := congrArg BitVec.toNat e
    rw [BitVec.toNat_setWidth, BitVec.toNat_ofNat] at e'
    apply BitVec.eq_of_toNat_eq
    rw [BitVec.toNat_ofNat]
    split at h <;> omega
  · rintro rfl
    apply BitVec.eq_of_toNat_eq
    rw [BitVec.toNat_setWidth, BitVec.toNat_ofNat, BitVec.toNat_ofNat]
    omega

/-- A flag read as a number is one or zero. -/
theorem flag_number (x : BitVec 1) : (((x.toNat : ℝ)) : EReal) = if x = 1#1 then 1 else 0 := by
  by_cases h : x = 1#1
  · subst h; simp
  · have : x = 0#1 := ValueIdx.eq_zero_of_ne_one h
    subst this; simp

/-- The comparison with zero of a flag widened to a word and read as a number. -/
theorem flag_pos (y : EReal) :
    0 < (((((Ideal.cmp .ogt y 0).setWidth 32).toInt : ℝ)) : EReal) ↔ 0 < y := by
  show 0 < ((((((BitVec.ofBool (decide (0 < y))).setWidth 32).toInt : ℝ)) : EReal)) ↔ 0 < y
  by_cases h : 0 < y <;> simp [h]

/-- Membership times the active member's clamped exponential is the member's unnormalised weight. -/
theorem weigh {a e : Prop} [Decidable a] [Decidable e] (y : EReal)
    (hy : a → ((-40 : ℝ) : EReal) ≤ y ∧ y ≤ ((40 : ℝ) : EReal)) :
    (if e then 1 else 0 : EReal) * (Ideal.exp (min ((40 : ℝ) : EReal) (max ((-40 : ℝ) : EReal) y)) * (if a then 1 else 0))
      = if a ∧ e then Ideal.exp y else 0 := by
  by_cases ha : a
  · rw [Softmax.clamp_eq (hy ha).1 (hy ha).2]
    by_cases he : e <;> simp [ha, he]
  · simp [ha]

/-! ## The arrays the body reads, at an index -/

/-- Token `k` of the first half, among all. -/
abbrev lo (k : Fin 4096) : Fin 8192 := ⟨k.val, by omega⟩
/-- Token `k` of the second half, among all. -/
abbrev hi (k : Fin 4096) : Fin 8192 := ⟨4096 + k.val, by omega⟩

/-- A sum over all tokens is the sum over the first half plus the sum over the second. -/
theorem sum_halves (f : Fin 8192 → EReal) : ∑ n, f n = (∑ k, f (lo k)) + ∑ k, f (hi k) :=
  Fin.sum_univ_add (a := 4096) (b := 4096) (f : Fin (4096 + 4096) → EReal)

variable (m : (ℓ : Loc nD τ sig) → Buf (Elt Ideal) ℓ) (c : Dev nD)

/-- The first argument: the tokens' features. -/
abbrev X0 : Tokens := m ((c : Thread nD τ).loc main_arg0)
/-- The second argument: the active flags. -/
abbrev X1 : Flags := m ((c : Thread nD τ).loc main_arg1)
/-- The third argument: the channel indices. -/
abbrev X2 : Channels := m ((c : Thread nD τ).loc main_arg2)
/-- The fourth argument: the first layer's weights. -/
abbrev X3 : Weight1 := m ((c : Thread nD τ).loc main_arg3)
/-- The fifth argument: the first layer's bias. -/
abbrev X4 : Bias1 := m ((c : Thread nD τ).loc main_arg4)
/-- The sixth argument: the second layer's weights. -/
abbrev X5 : Weight2 := m ((c : Thread nD τ).loc main_arg5)
/-- The seventh argument: the second layer's bias. -/
abbrev X6 : Bias2 := m ((c : Thread nD τ).loc main_arg6)

/-- The channel map holds the narrowed channel indices. -/
theorem map_at (n : Fin 8192) : (mapRow m c : IVec S1x1x8192 16) (ix3 0 0 n) = (X2 m c (ix1 n)).setWidth 16 := by
  refine (congrFun (V_map m c) (ix3 0 0 n)).trans ?_
  refine (shapeCast_apply _ shapeCasts_S8192_S1x1x8192 (ix3 0 0 n) (ix1 n) ?_).trans rfl
  rw [Shape.rowMajor_val_one, Shape.rowMajor_val_three]
  simp

/-- A batch's flag row holds its tokens' flags as numbers. -/
theorem flagRow_at (b : Fin 16) (n : Fin 8192) :
    (flagRow m c b : FVec Ideal S1x1x8192 .f32) (ix3 0 0 n) = if X1 m c (ix2 b n) = 1#1 then 1 else 0 := by
  refine (congrFun (V_flags m c) (ix3 b 0 n)).trans ?_
  refine (shapeCast_apply _ shapeCasts_S16x8192_S16x1x8192 (ix3 b 0 n) (ix2 b n) ?_).trans (flag_number _)
  rw [Shape.rowMajor_val_two, Shape.rowMajor_val_three]
  simp

/-- The first half's features. -/
theorem tokenLo_at (b : Fin 16) (k : Fin 4096) (d : Fin 128) :
    (tokenLo m c b : FVec Ideal S1x4096x128 .f32) (ix3 0 k d) = X0 m c (ix3 b (lo k) d) :=
  congrFun (V_main_arg0 m c) (ix3 b (lo k) d)

/-- The second half's features. -/
theorem tokenHi_at (b : Fin 16) (k : Fin 4096) (d : Fin 128) :
    (tokenHi m c b : FVec Ideal S1x4096x128 .f32) (ix3 0 k d) = X0 m c (ix3 b (hi k) d) :=
  congrFun (V_main_arg0 m c) (ix3 b (hi k) d)

/-- The first layer's weights. -/
theorem weight1_at (u : Fin 64) (d : Fin 128) : (V m c main_v6 : FVec Ideal S64x128 .bf16) (ix2 u d) = X3 m c (ix2 u d) :=
  congrFun (V_weight1 m c) (ix2 u d)

/-- The second layer's weights. -/
theorem weight2_at (u : Fin 64) : (V m c main_v7 : FVec Ideal S1x64 .bf16) (ix2 0 u) = X5 m c (ix2 0 u) :=
  congrFun (V_weight2 m c) (ix2 0 u)

/-- The first layer's bias, a column. -/
theorem bias1_at (u : Fin 64) : (V m c main_v4 : FVec Ideal S64x1 .f32) (ix2 u 0) = X4 m c (ix1 u) := by
  refine (congrFun (V_bias1 m c) (ix2 u 0)).trans ?_
  refine shapeCast_apply _ shapeCasts_S64_S64x1 (ix2 u 0) (ix1 u) ?_
  rw [Shape.rowMajor_val_one, Shape.rowMajor_val_two]
  simp

/-- The second layer's bias, one number. -/
theorem bias2_at : (V m c main_v5 : FVec Ideal S1x1 .f32) (ix2 0 0) = X6 m c (ix1 0) := by
  refine (congrFun (V_bias2 m c) (ix2 0 0)).trans ?_
  refine shapeCast_apply _ shapeCasts_S1_S1x1 (ix2 0 0) (ix1 0) ?_
  rw [Shape.rowMajor_val_one, Shape.rowMajor_val_two]
  rfl

/-- The second layer's weights as the body reads them. -/
abbrev readWeight2 : FVec Ideal S1x64 .bf16 := V m c main_v7
/-- The second layer's bias as the body reads it. -/
abbrev readBias2 : FVec Ideal S1x1 .f32 := V m c main_v5

/-! ## The halves of a row -/

/-- The first half of a flag row holds the row's entries 0 to 4095. -/
theorem flagsLo_at (x : FVec Ideal S1x1x8192 .f32) (k : Fin 4096) :
    (flagsLo (F := Ideal) x : FVec Ideal S1x1x4096 .f32) (ix3 0 0 k) = x (ix3 0 0 (lo k)) :=
  View.ld_unit_apply_of (Val := Elt Ideal) (e := .f32) x _ _ _ (ix3 0 0 k) (ix3 0 0 (lo k)) fun a => by
    match a with
    | ⟨0, _⟩ => rfl
    | ⟨1, _⟩ => rfl
    | ⟨2, _⟩ => exact (Nat.zero_add _).symm

/-- The second half of a flag row holds the row's entries 4096 to 8191. -/
theorem flagsHi_at (x : FVec Ideal S1x1x8192 .f32) (k : Fin 4096) :
    (flagsHi (F := Ideal) x : FVec Ideal S1x1x4096 .f32) (ix3 0 0 k) = x (ix3 0 0 (hi k)) :=
  View.ld_unit_apply_of (Val := Elt Ideal) (e := .f32) x _ _ _ (ix3 0 0 k) (ix3 0 0 (hi k)) fun a => by
    match a with
    | ⟨0, _⟩ => rfl
    | ⟨1, _⟩ => rfl
    | ⟨2, _⟩ => rfl

/-- The first half of the membership matrix holds its columns 0 to 4095. -/
theorem memberLo_at (x : FVec Ideal S128x8192 .bf16) (p : Fin 128) (k : Fin 4096) :
    (memberLo (F := Ideal) x : FVec Ideal S128x4096 .bf16) (ix2 p k) = x (ix2 p (lo k)) :=
  View.ld_unit_apply_of (Val := Elt Ideal) (e := .bf16) x _ _ _ (ix2 p k) (ix2 p (lo k)) fun a => by
    match a with
    | ⟨0, _⟩ => exact (Nat.zero_add _).symm
    | ⟨1, _⟩ => exact (Nat.zero_add _).symm

/-- The second half of the membership matrix holds its columns 4096 to 8191. -/
theorem memberHi_at (x : FVec Ideal S128x8192 .bf16) (p : Fin 128) (k : Fin 4096) :
    (memberHi (F := Ideal) x : FVec Ideal S128x4096 .bf16) (ix2 p k) = x (ix2 p (hi k)) :=
  View.ld_unit_apply_of (Val := Elt Ideal) (e := .bf16) x _ _ _ (ix2 p k) (ix2 p (hi k)) fun a => by
    match a with
    | ⟨0, _⟩ => exact (Nat.zero_add _).symm
    | ⟨1, _⟩ => rfl

/-! ## The weights -/

/-- The membership matrix holds one where the channel index is the row's channel and zero elsewhere. -/
theorem member_at (hr : ∀ n, -32768 ≤ (X2 m c (ix1 n)).toInt ∧ (X2 m c (ix1 n)).toInt < 32768) (p : Fin 128) (n : Fin 8192) :
    k0_pay7 (F := Ideal) (mapRow m c) (ix2 p n) = if X2 m c (ix1 n) = BitVec.ofNat 32 p.val then 1 else 0 := by
  refine (member_apply (mapRow m c) p n).trans ?_
  rw [map_at m c n, one_narrow, zero_narrow]
  show (if _ = 1#1 then _ else _) = _
  exact if_congr (IntOp.cmpi_eq.trans (narrow_eq _ (hr n) p)) rfl rfl

/-- The kernel's gate of a token whose features are `t`. -/
theorem gate_of (b : Fin 16) (n : Fin 8192) (k : Fin 4096) (t : FVec Ideal S1x4096x128 .f32)
    (ht : ∀ d, t (ix3 0 k d) = X0 m c (ix3 b n d)) :
    (∑ u : Fin 64, (readWeight2 m c (ix2 0 u)
        * k0_pay10 (F := Ideal) t (V m c main_v6) (V m c main_v4) (ix2 u k) : EReal))
      + readBias2 m c (ix2 0 0)
      = gate (X0 m c) (X3 m c) (X4 m c) (X5 m c) (X6 m c) b n := by
  refine congrArg₂ (fun p q : EReal => p + q) (Finset.sum_congr rfl fun u _ => ?_) (bias2_at m c)
  refine (mul_comm (_ : EReal) _).trans (congrArg₂ (fun p q : EReal => p * q) ?_ (weight2_at m c u))
  refine (hidden_apply t _ _ u k).trans (congrArg Ideal.tanh ?_)
  refine congrArg₂ (fun p q : EReal => p + q) (Finset.sum_congr rfl fun d _ => ?_) (bias1_at m c u)
  exact (mul_comm (_ : EReal) _).trans (congrArg₂ (fun p q : EReal => p * q) (ht d) (weight1_at m c u d))

/-- A channel's members in a batch. -/
abbrev mem (b : Fin 16) (p : Fin 128) : Fin 8192 → Prop := Member (X1 m c) (X2 m c) b p
/-- A batch's gates. -/
abbrev gates (b : Fin 16) : Fin 8192 → EReal := gate (X0 m c) (X3 m c) (X4 m c) (X5 m c) (X6 m c) b

section Under

variable (hg : ∀ b n, X1 m c (ix2 b n) = 1#1 → ((-40 : ℝ) : EReal) ≤ gates m c b n ∧ gates m c b n ≤ ((40 : ℝ) : EReal))
  (hr : ∀ n, -32768 ≤ (X2 m c (ix1 n)).toInt ∧ (X2 m c (ix1 n)).toInt < 32768)

include hg hr

/-- The weight the body computes of a token, from the token's features, flag and membership. -/
theorem mass_of (b : Fin 16) (p : Fin 128) (n : Fin 8192) (k : Fin 4096) (t : FVec Ideal S1x4096x128 .f32)
    (f : FVec Ideal S1x1x4096 .f32) (O : FVec Ideal S128x4096 .bf16)
    (ht : ∀ d, t (ix3 0 k d) = X0 m c (ix3 b n d))
    (hf : f (ix3 0 0 k) = if X1 m c (ix2 b n) = 1#1 then 1 else 0)
    (hO : O (ix2 p k) = if X2 m c (ix1 n) = BitVec.ofNat 32 p.val then 1 else 0) :
    k0_pay12 (F := Ideal) (k0_pay10 t (V m c main_v6) (V m c main_v4)) (V m c main_v7) (V m c main_v5) f O (ix2 p k)
      = Softmax.mass (mem m c b p) (gates m c b) n := by
  refine (mass_apply _ _ _ _ _ p k).trans ?_
  refine (congrArg₂ (fun q r : EReal => q * r) hO (congrArg₂ (fun q r : EReal => q * r)
    (congrArg (fun y : EReal => Ideal.exp (min (Ideal.ofBits .f32 0x42200000#32) (max (Ideal.ofBits .f32 0xC2200000#32) y)))
      (gate_of m c b n k t ht)) hf)).trans ?_
  rw [forty, minus_forty]
  exact weigh _ (hg b n)

/-- The first half's weights. -/
theorem massLo_at (b : Fin 16) (p : Fin 128) (k : Fin 4096) :
    massLo (F := Ideal) (flagRow m c b) (tokenLo m c b) (V m c main_v6) (V m c main_v4) (V m c main_v7) (V m c main_v5)
      (k0_pay7 (mapRow m c)) (ix2 p k) = Softmax.mass (mem m c b p) (gates m c b) (lo k) :=
  mass_of m c hg hr b p (lo k) k _ _ _ (tokenLo_at m c b k) ((flagsLo_at _ k).trans (flagRow_at m c b (lo k)))
    ((memberLo_at _ p k).trans (member_at m c hr p (lo k)))

/-- The second half's weights. -/
theorem massHi_at (b : Fin 16) (p : Fin 128) (k : Fin 4096) :
    massHi (F := Ideal) (flagRow m c b) (tokenHi m c b) (V m c main_v6) (V m c main_v4) (V m c main_v7) (V m c main_v5)
      (k0_pay7 (mapRow m c)) (ix2 p k) = Softmax.mass (mem m c b p) (gates m c b) (hi k) :=
  mass_of m c hg hr b p (hi k) k _ _ _ (tokenHi_at m c b k) ((flagsHi_at _ k).trans (flagRow_at m c b (hi k)))
    ((memberHi_at _ p k).trans (member_at m c hr p (hi k)))

/-- The total weight of a channel. -/
theorem total_at (b : Fin 16) (p : Fin 128) :
    totalOf (F := Ideal) (flagRow m c b) (tokenLo m c b) (tokenHi m c b) (V m c main_v6) (V m c main_v4) (V m c main_v7)
      (V m c main_v5) (k0_pay7 (mapRow m c)) (ix2 p 0) = ∑ n, Softmax.mass (mem m c b p) (gates m c b) n := by
  refine (total_apply _ _ _ p).trans ?_
  have h0 : k0_pay5 (F := Ideal) (ix2 p 0) = 0 := Ideal.ofBits_zero_f32
  rw [h0, Ideal.ofBits_zero_f32, zero_add, zero_add, sum_halves]
  exact congrArg₂ (fun p q : EReal => p + q) (Finset.sum_congr rfl fun k _ => massLo_at m c hg hr b p k)
    (Finset.sum_congr rfl fun k _ => massHi_at m c hg hr b p k)

/-- The weighted feature sum of a channel. -/
theorem pooled_at (b : Fin 16) (p h : Fin 128) :
    pooledOf (F := Ideal) (flagRow m c b) (tokenLo m c b) (tokenHi m c b) (V m c main_v6) (V m c main_v4) (V m c main_v7)
      (V m c main_v5) (k0_pay7 (mapRow m c)) (ix2 p h)
      = ∑ n, (Softmax.mass (mem m c b p) (gates m c b) n * X0 m c (ix3 b n h) : EReal) := by
  refine (pooled_apply _ _ _ _ _ p h).trans ?_
  have h0 : k0_pay6 (F := Ideal) (ix2 p h) = 0 := Ideal.ofBits_zero_f32
  rw [h0, Ideal.ofBits_zero_f32, zero_add, zero_add, sum_halves]
  exact congrArg₂ (fun p q : EReal => p + q)
    (Finset.sum_congr rfl fun k _ => congrArg₂ (fun p q : EReal => p * q) (massLo_at m c hg hr b p k)
      ((tokens_apply _ k h).trans (tokenLo_at m c b k h)))
    (Finset.sum_congr rfl fun k _ => congrArg₂ (fun p q : EReal => p * q) (massHi_at m c hg hr b p k)
      ((tokens_apply _ k h).trans (tokenHi_at m c b k h)))

/-! ## The results -/

/-- A channel token is the weighted feature sum over the total weight, kept above the floor. -/
theorem tokensArr_at (b : Fin 16) (p h : Fin 128) :
    (tokensArr m c : FVec Ideal S16x128x128 .f32) (ix3 b p h)
      = Ideal.div (∑ n, (Softmax.mass (mem m c b p) (gates m c b) n * X0 m c (ix3 b n h) : EReal))
          (max (∑ n, Softmax.mass (mem m c b p) (gates m c b) n) floor) := by
  refine (quotient_apply _ _ p h).trans ?_
  exact congrArg₂ (fun p q : EReal => Ideal.div p (max q floor)) (pooled_at m c hg hr b p h) (total_at m c hg hr b p)

/-- A channel is active when its total weight is positive. -/
theorem activeRes_at (b : Fin 16) (p : Fin 128) :
    (activeRes m c : IVec S16x128 1) (ix2 b p) = 1#1 ↔ 0 < ∑ n, Softmax.mass (mem m c b p) (gates m c b) n := by
  have hcast : shapeCast S16x128 (activeArr m c : FVec Ideal S16x128x1 .f32) shapeCasts_S16x128x1_S16x128 (ix2 b p)
      = (((((Ideal.cmp .ogt (∑ n, Softmax.mass (mem m c b p) (gates m c b) n) 0).setWidth 32).toInt : ℝ)) : EReal) := by
    refine (shapeCast_apply _ shapeCasts_S16x128x1_S16x128 (ix2 b p) (ix3 b p 0) ?_).trans ?_
    · rw [Shape.rowMajor_val_three, Shape.rowMajor_val_two]
      simp
    · refine (flag_apply _ p).trans ?_
      exact congrArg₂ (fun q z : EReal => (((((Ideal.cmp .ogt q z).setWidth 32).toInt : ℝ)) : EReal))
        (total_at m c hg hr b p) Ideal.ofBits_zero_f32
  refine Iff.trans ?_ (flag_pos _)
  have hval : (activeRes m c : IVec S16x128 1) (ix2 b p)
      = Ideal.cmp .ogt (shapeCast S16x128 (activeArr m c : FVec Ideal S16x128x1 .f32) shapeCasts_S16x128x1_S16x128 (ix2 b p))
          (Ideal.ofBits .f32 0x00000000#32) := rfl
  rw [hval, hcast, Ideal.ofBits_zero_f32]
  exact WordCmp.ofBool_decide_eq_one_iff _

end Under

end Cert.KernelIdeal.Value

end
-- ==== Proof.ReferenceValue.lean ====
/-
  The reference's two results read at an index: the softmax-pooled feature and the activity of a channel, over gates
  and memberships.
-/
module

public import proofs.«01_k».proof.Proof.Spec
public import proofs.«01_k».proof.Proof.Gen.ReferenceIdeal.Read
public import Idealize.ShloMosaic.Lib.Affine
public import Idealize.ShloMosaic.Lib.ValueIdxCore

@[expose] public section

set_option maxRecDepth 16384

noncomputable section

open Idealize.ShloMosaic

namespace Cert.ReferenceIdeal.Value

open Cert.ReferenceIdeal Cert.ReferenceIdeal.Gen Cert.ReferenceIdeal.Read Cert.Spec

variable (x0 : Tokens) (x1 : Flags) (x2 : Channels) (x3 : Weight1) (x4 : Bias1) (x5 : Weight2) (x6 : Bias2)

/-- The reference's hidden layer. -/
theorem hidden_at (b : Fin 16) (n : Fin 8192) (u : Fin 64) :
    val_main_v4 (F := Ideal) x0 x3 x4 (ix3 b n u)
      = Ideal.tanh ((∑ d : Fin 128, (x0 (ix3 b n d) * x3 (ix2 u d) : EReal)) + x4 (ix1 u)) := by
  refine congrArg Ideal.tanh (congrArg₂ (fun p q : EReal => p + q) ?_ ?_)
  · refine (val_main_v0_apply x0 x3 (ix3 b n u)).trans (Finset.sum_congr rfl fun d _ => ?_)
    refine congrArg₂ (fun p q : EReal => p * q) (congrArg x0 ?_) (congrArg x3 ?_)
    · funext a
      match a with
      | ⟨0, _⟩ => rfl
      | ⟨1, _⟩ => rfl
      | ⟨2, _⟩ => rfl
    · funext a
      match a with
      | ⟨0, _⟩ => rfl
      | ⟨1, _⟩ => rfl
  · refine ((val_main_v2_apply (F := Ideal) x4 (ix3 b n u)).trans (val_main_v1_apply (F := Ideal) x4 _)).trans (congrArg x4 ?_)
    funext a
    match a with
    | ⟨0, _⟩ => rfl

/-- The reference's gate. -/
theorem gate_at (b : Fin 16) (n : Fin 8192) :
    val_main_v9 (F := Ideal) x0 x3 x4 x5 x6 (ix2 b n) = gate x0 x3 x4 x5 x6 b n := by
  have hi : idx_main_v9 (ix2 b n) = ix3 b n 0 := by
    funext a
    refine Fin.ext ?_
    have hn : n.val < 8192 := n.isLt
    match a with
    | ⟨0, _⟩ => show (b.val * 8192 + n.val) / 8192 = b.val; omega
    | ⟨1, _⟩ => show (b.val * 8192 + n.val) / 1 % 8192 = n.val; omega
    | ⟨2, _⟩ => rfl
  refine (val_main_v9_apply (F := Ideal) x0 x3 x4 x5 x6 (ix2 b n)).trans ?_
  rw [hi]
  refine congrArg₂ (fun p q : EReal => p + q) ?_ ?_
  · refine (val_main_v5_apply x0 x3 x4 x5 (ix3 b n 0)).trans (Finset.sum_congr rfl fun u _ => ?_)
    refine congrArg₂ (fun p q : EReal => p * q) ?_ (congrArg x5 ?_)
    · refine Eq.trans (congrArg (val_main_v4 (F := Ideal) x0 x3 x4) ?_) (hidden_at x0 x3 x4 b n u)
      funext a
      match a with
      | ⟨0, _⟩ => rfl
      | ⟨1, _⟩ => rfl
      | ⟨2, _⟩ => rfl
    · funext a
      match a with
      | ⟨0, _⟩ => rfl
      | ⟨1, _⟩ => rfl
  · refine ((val_main_v7_apply (F := Ideal) x6 (ix3 b n 0)).trans (val_main_v6_apply (F := Ideal) x6 _)).trans (congrArg x6 ?_)
    funext a
    match a with
    | ⟨0, _⟩ => rfl

/-- The reference's membership bit. -/
theorem member_at (b : Fin 16) (n : Fin 8192) (p : Fin 128) :
    val_main_v20 (F := Ideal) x1 x2 (ix3 b n p) = 1#1 ↔ Member x1 x2 b p n := by
  have h1 : val_main_v18 (F := Ideal) x1 (ix3 b n p) = x1 (ix2 b n) := by
    refine ((val_main_v18_apply (F := Ideal) x1 _).trans (val_main_v16_apply (F := Ideal) x1 _)).trans (congrArg x1 ?_)
    funext a
    match a with
    | ⟨0, _⟩ => rfl
    | ⟨1, _⟩ => rfl
  have h2 : val_main_v19 (F := Ideal) x2 (ix3 b n p) = IntOp.cmpi .eq (x2 (ix1 n)) (BitVec.ofNat 32 p.val) := by
    refine ((val_main_v19_apply (F := Ideal) x2 _).trans (val_main_v17_apply (F := Ideal) x2 _)).trans ?_
    refine congrArg₂ (IntOp.cmpi .eq) ?_ ?_
    · refine ((val_main_v13_apply (F := Ideal) x2 _).trans (val_main_v10_apply (F := Ideal) x2 _)).trans (congrArg x2 ?_)
      funext a
      match a with
      | ⟨0, _⟩ => rfl
    · exact (val_main_v14_apply (F := Ideal) _).trans ((val_main_v12_apply (F := Ideal) _).trans (val_main_v11_apply (F := Ideal) _))
  refine (IntOp.andi_eq_one (c := val_main_v18 (F := Ideal) x1 (ix3 b n p)) (d := val_main_v19 (F := Ideal) x2 (ix3 b n p))).trans ?_
  rw [h1, h2, IntOp.cmpi_eq]
  exact Iff.rfl

/-- A selection by the membership bit is a case distinction on membership. -/
theorem select_member (b : Fin 16) (n : Fin 8192) (p : Fin 128) (y z : EReal) :
    Scalar.select (val_main_v20 (F := Ideal) x1 x2 (ix3 b n p)) y z = if Member x1 x2 b p n then y else z := by
  show (if val_main_v20 (F := Ideal) x1 x2 (ix3 b n p) = 1#1 then y else z) = _
  exact if_congr (member_at x1 x2 b n p) rfl rfl

/-- The gate a token shows to a channel. -/
theorem shown_at (b : Fin 16) (n : Fin 8192) (p : Fin 128) :
    val_main_v22 (F := Ideal) x0 x1 x2 x3 x4 x5 x6 (ix3 b n p)
      = Softmax.shown (Member x1 x2 b p) (gate x0 x3 x4 x5 x6 b) low n := by
  refine (select_member x1 x2 b n p _ _).trans ?_
  unfold Softmax.shown
  congr 1
  · refine ((val_main_call0_v1_apply (F := Ideal) x0 x3 x4 x5 x6 _).trans (val_main_v21_apply (F := Ideal) x0 x3 x4 x5 x6 _)).trans ?_
    refine Eq.trans (congrArg (val_main_v9 (F := Ideal) x0 x3 x4 x5 x6) ?_) (gate_at x0 x3 x4 x5 x6 b n)
    funext a
    match a with
    | ⟨0, _⟩ => rfl
    | ⟨1, _⟩ => rfl

/-- The tokens' axis reduces away. -/
theorem reduces_tokens : S16x8192x128.Reduces [1] S16x128 := by decide

/-- A reduced index and a token number name an index of the three-axis array. -/
theorem lift_at (b : Fin 16) (p : Fin 128) (n : Fin 8192) : reduces_tokens.lift (ix2 b p) n = ix3 b n p := by
  funext a
  refine Fin.ext ?_
  match a with
  | ⟨0, _⟩ => rfl
  | ⟨1, _⟩ => rfl
  | ⟨2, _⟩ => rfl

/-- A reduction of the tokens' axis is a fold over the token numbers. -/
theorem fold_tokens {α : Type} (f : α → α → α) [Std.Commutative f] [Std.Associative f] (x : S16x8192x128.Idx → α) (init : S_.Idx → α)
    (b : Fin 16) (p : Fin 128) :
    Host.reduce f x init reducesTo_S16x8192x128_S16x128_d1 h_S_ (ix2 b p)
      = (Finset.univ : Finset (Fin 8192)).fold f (init (Shape.Idx.first h_S_)) (fun n => x (ix3 b n p)) := by
  refine (Host.reduce_eq_fold_single f x init reducesTo_S16x8192x128_S16x128_d1 reduces_tokens h_S_ (ix2 b p)).trans ?_
  exact Finset.fold_congr fun n _ => congrArg x (lift_at b p n)

/-- The largest shown gate of a channel. -/
theorem peak_at (b : Fin 16) (p : Fin 128) :
    val_main_v23 (F := Ideal) x0 x1 x2 x3 x4 x5 x6 (ix2 b p)
      = Softmax.peak (Member x1 x2 b p) (gate x0 x3 x4 x5 x6 b) low := by
  refine (fold_tokens (FloatOps.maximumf (F := Ideal) (φ := .f32)) (val_main_v22 (F := Ideal) x0 x1 x2 x3 x4 x5 x6)
    (val_main_cst_0 (F := Ideal)) b p).trans ?_
  rw [show val_main_cst_0 (F := Ideal) (Shape.Idx.first h_S_) = (⊥ : EReal) from (val_main_cst_0_apply (F := Ideal) _).trans bottom]
  exact Finset.fold_congr fun n _ => shown_at x0 x1 x2 x3 x4 x5 x6 b n p

/-- A token's shifted weight in a channel. -/
theorem weight_at (b : Fin 16) (n : Fin 8192) (p : Fin 128) :
    val_main_v28 (F := Ideal) x0 x1 x2 x3 x4 x5 x6 (ix3 b n p)
      = Softmax.weight (Member x1 x2 b p) (gate x0 x3 x4 x5 x6 b) low n := by
  refine (select_member x1 x2 b n p _ _).trans ?_
  unfold Softmax.weight
  congr 1
  · refine congrArg Ideal.exp (congrArg₂ (fun y z : EReal => y - z) (shown_at x0 x1 x2 x3 x4 x5 x6 b n p) ?_)
    refine ((val_main_v25_apply (F := Ideal) x0 x1 x2 x3 x4 x5 x6 _).trans (val_main_v24_apply (F := Ideal) x0 x1 x2 x3 x4 x5 x6 _)).trans ?_
    refine Eq.trans (congrArg (val_main_v23 (F := Ideal) x0 x1 x2 x3 x4 x5 x6) ?_) (peak_at x0 x1 x2 x3 x4 x5 x6 b p)
    funext a
    match a with
    | ⟨0, _⟩ => rfl
    | ⟨1, _⟩ => rfl
  · exact (val_main_call1_v1_apply (F := Ideal) _).trans Ideal.ofBits_zero_f32

/-- The reference's first result. -/
theorem tokens_at (b : Fin 16) (p h : Fin 128) :
    val_main_v35 (F := Ideal) x0 x1 x2 x3 x4 x5 x6 (ix3 b p h)
      = ∑ n : Fin 8192, (Ideal.div (Softmax.weight (Member x1 x2 b p) (gate x0 x3 x4 x5 x6 b) low n)
          (max (∑ k : Fin 8192, Softmax.weight (Member x1 x2 b p) (gate x0 x3 x4 x5 x6 b) low k) floor) * x0 (ix3 b n h) : EReal) := by
  refine (val_main_v35_apply x0 x1 x2 x3 x4 x5 x6 (ix3 b p h)).trans (Finset.sum_congr rfl fun n _ => ?_)
  have hl : lidx_main_v35 (ix3 b p h) n = ix3 b n p := by
    funext a
    match a with
    | ⟨0, _⟩ => rfl
    | ⟨1, _⟩ => rfl
    | ⟨2, _⟩ => rfl
  have hr : ridx_main_v35 (ix3 b p h) n = ix3 b n h := by
    funext a
    match a with
    | ⟨0, _⟩ => rfl
    | ⟨1, _⟩ => rfl
    | ⟨2, _⟩ => rfl
  rw [hl, hr]
  refine congrArg (fun z : EReal => (z * x0 (ix3 b n h) : EReal)) ?_
  refine congrArg₂ Ideal.div (weight_at x0 x1 x2 x3 x4 x5 x6 b n p) ?_
  refine (val_main_v33_apply (F := Ideal) x0 x1 x2 x3 x4 x5 x6 _).trans ?_
  refine congrArg₂ (fun y z : EReal => max y z) ?_ (val_main_v31_apply (F := Ideal) _)
  refine (val_main_v30_apply (F := Ideal) x0 x1 x2 x3 x4 x5 x6 _).trans ?_
  refine (val_main_v29_apply x0 x1 x2 x3 x4 x5 x6 _).trans ?_
  refine (congrArg (fun z : EReal => z + _) Ideal.ofBits_zero_f32).trans ((zero_add _).trans (Finset.sum_congr rfl fun k _ => ?_))
  refine Eq.trans (congrArg (val_main_v28 (F := Ideal) x0 x1 x2 x3 x4 x5 x6) ?_) (weight_at x0 x1 x2 x3 x4 x5 x6 b k p)
  funext a
  match a with
  | ⟨0, _⟩ => rfl
  | ⟨1, _⟩ => rfl
  | ⟨2, _⟩ => rfl

/-- A fold by `or` from zero is one exactly when some term is. -/
theorem fold_ori {ι : Type} (t : Finset ι) (f : ι → BitVec 1) : t.fold IntOp.ori 0#1 f = 1#1 ↔ ∃ n ∈ t, f n = 1#1 := by
  classical
  induction t using Finset.induction_on with
  | empty => simp
  | insert n t hn ih =>
    rw [Finset.fold_insert hn, IntOp.ori_eq_one, ih]
    simp

/-- The reference's second result: some active token belongs to the channel. -/
theorem active_at (b : Fin 16) (p : Fin 128) :
    val_main_v36 (F := Ideal) x1 x2 (ix2 b p) = 1#1 ↔ ∃ n, Member x1 x2 b p n := by
  have e : val_main_v36 (F := Ideal) x1 x2 (ix2 b p)
      = (Finset.univ : Finset (Fin 8192)).fold IntOp.ori 0#1 (fun n => val_main_v20 (F := Ideal) x1 x2 (ix3 b n p)) :=
    fold_tokens IntOp.ori (val_main_v20 (F := Ideal) x1 x2) (val_main_c (F := Ideal)) b p
  rw [e, fold_ori]
  constructor
  · rintro ⟨n, _, h⟩
    exact ⟨n, (member_at x1 x2 b n p).1 h⟩
  · rintro ⟨n, h⟩
    exact ⟨n, Finset.mem_univ n, (member_at x1 x2 b n p).2 h⟩

end Cert.ReferenceIdeal.Value

end
-- ==== Proof.PreValue.lean ====
/-
  What the precondition says of the arguments: an active token's gate lies between the clamp's two bounds, and a
  channel index is a signed 16-bit integer.
-/
module

public import proofs.«01_k».proof.Pre_gates_unclipped
public import proofs.«01_k».proof.Proof.ReferenceValue
public import Idealize.ShloMosaic.Lib.ReduceAll
public import Idealize.ShloMosaic.Lib.WordCmp

@[expose] public section

set_option maxRecDepth 16384
set_option Elab.async false

noncomputable section

open Idealize.ShloMosaic

namespace Cert.Pre_gates_unclipped

open Cert.Spec

/-- The features' product with the first layer's weights is well formed. -/
theorem dot_features : DotDims.WF S16x8192x128 S64x128 S16x8192x64 [2] [1] [0, 1] [0] [] [] := by decide
/-- The hidden units' product with the second layer's weights is well formed. -/
theorem dot_units : DotDims.WF S16x8192x64 S1x64 S16x8192x1 [2] [1] [0, 1] [0] [] [] := by decide
/-- The gates' trailing unit axis can be dropped. -/
theorem cast_gates : S16x8192x1.ShapeCasts S16x8192 := by decide

/-- The shape relations the precondition's operations take hold. -/
instance facts : Facts where
  bcast_S64_S1x1x64_2 := by decide
  bcast_S1x1x64_S16x8192x64_0_1_2 := by decide
  bcast_S1_S1x1x1_2 := by decide
  bcast_S1x1x1_S16x8192x1_0_1_2 := by decide
  shapeCasts_S16x8192x1_S16x8192 := cast_gates
  bcast_S_S16x8192 := by decide
  bcast_S_S8192 := by decide
  reducesTo_S16x8192_S_d0_1 := by decide
  h_S_ := by decide
  reducesTo_S8192_S_d0 := by decide
  dot_S16x8192x128_S64x128_S16x8192x64_2_1_01_0_n_n_wf := dot_features
  dot_S16x8192x64_S1x64_S16x8192x1_2_1_01_0_n_n_wf := dot_units

variable (x0 : Tokens) (x1 : Flags) (x2 : Channels) (x3 : Weight1) (x4 : Bias1) (x5 : Weight2) (x6 : Bias2)

/-- The gates as the precondition computes them. -/
abbrev gatesOf : FVec Ideal S16x8192 .f32 := Cert.ReferenceIdeal.Read.val_main_v9 (F := Ideal) x0 x3 x4 x5 x6

/-- Every token's condition on its gate, as one bit. -/
def gateBit : IVec S16x8192 1 :=
  ori (noti x1) (andi
    (cmpf .oge (gatesOf x0 x3 x4 x5 x6)
      (broadcastInDim S16x8192 ![] Facts.bcast_S_S16x8192 (constant S_ .f32 0xC2200000#32)))
    (cmpf .ole (gatesOf x0 x3 x4 x5 x6)
      (broadcastInDim S16x8192 ![] Facts.bcast_S_S16x8192 (constant S_ .f32 0x42200000#32))))

/-- Every token's condition on its channel index, as one bit. -/
def rangeBit : IVec S8192 1 :=
  andi (cmpi .sge x2 (broadcastInDim S8192 ![] Facts.bcast_S_S8192 (constantI S_ 32 4294934528#32)))
    (cmpi .slt x2 (broadcastInDim S8192 ![] Facts.bcast_S_S8192 (constantI S_ 32 32768#32)))

/-- The precondition is the conjunction of the two conditions over all tokens. -/
theorem fn_eq : fn (F := Ideal) x0 x1 x2 x3 x4 x5 x6
    = andi (Host.reduce IntOp.andi (gateBit x0 x1 x3 x4 x5 x6) (constantI S_ 1 1#1) Facts.reducesTo_S16x8192_S_d0_1 Facts.h_S_)
        (Host.reduce IntOp.andi (rangeBit x2) (constantI S_ 1 1#1) Facts.reducesTo_S8192_S_d0 Facts.h_S_) := rfl

/-- The empty shape has one index. -/
instance : Subsingleton S_.Idx := ⟨fun i j => funext fun a => a.elim0⟩

/-- A token's gate bit is set when an active token's gate lies in the clamp's range. -/
theorem gateBit_at (b : Fin 16) (n : Fin 8192) (h : gateBit x0 x1 x3 x4 x5 x6 (ix2 b n) = 1#1) (ha : x1 (ix2 b n) = 1#1) :
    ((-40 : ℝ) : EReal) ≤ gate x0 x3 x4 x5 x6 b n ∧ gate x0 x3 x4 x5 x6 b n ≤ ((40 : ℝ) : EReal) := by
  have h' : IntOp.ori (~~~(x1 (ix2 b n))) (IntOp.andi
      (Ideal.cmp .oge (Cert.ReferenceIdeal.Read.val_main_v9 (F := Ideal) x0 x3 x4 x5 x6 (ix2 b n)) (Ideal.ofBits .f32 0xC2200000#32))
      (Ideal.cmp .ole (Cert.ReferenceIdeal.Read.val_main_v9 (F := Ideal) x0 x3 x4 x5 x6 (ix2 b n)) (Ideal.ofBits .f32 0x42200000#32))) = 1#1 := h
  rw [Cert.ReferenceIdeal.Value.gate_at, minus_forty, forty] at h'
  rcases IntOp.ori_eq_one.1 h' with h1 | h1
  · exact absurd ha (IntOp.not_eq_one.1 h1)
  · obtain ⟨hl, hu⟩ := IntOp.andi_eq_one.1 h1
    exact ⟨(WordCmp.ofBool_decide_eq_one_iff _).1 hl, (WordCmp.ofBool_decide_eq_one_iff _).1 hu⟩

/-- A token's range bit is set when its channel index is a signed 16-bit integer. -/
theorem rangeBit_at (n : Fin 8192) (h : rangeBit x2 (ix1 n) = 1#1) :
    -32768 ≤ (x2 (ix1 n)).toInt ∧ (x2 (ix1 n)).toInt < 32768 := by
  have h' : IntOp.andi (IntOp.cmpi .sge (x2 (ix1 n)) 4294934528#32) (IntOp.cmpi .slt (x2 (ix1 n)) 32768#32) = 1#1 := h
  obtain ⟨hl, hu⟩ := IntOp.andi_eq_one.1 h'
  exact ⟨IntOp.cmpi_sge.1 hl, IntOp.cmpi_slt.1 hu⟩

/-- Under the precondition every active token's gate lies between -40 and 40, and every channel index is a signed
    16-bit integer. -/
theorem of_fn (h : fn (F := Ideal) x0 x1 x2 x3 x4 x5 x6 = fun _ => 1#1) :
    (∀ b n, x1 (ix2 b n) = 1#1 →
      ((-40 : ℝ) : EReal) ≤ gate x0 x3 x4 x5 x6 b n ∧ gate x0 x3 x4 x5 x6 b n ≤ ((40 : ℝ) : EReal))
    ∧ ∀ n, -32768 ≤ (x2 (ix1 n)).toInt ∧ (x2 (ix1 n)).toInt < 32768 := by
  rw [fn_eq] at h
  obtain ⟨hg, hr⟩ := IntOp.andi_eq_one.1 (congrFun h (fun a => a.elim0))
  exact ⟨fun b n ha => gateBit_at x0 x1 x3 x4 x5 x6 b n (Host.reduce_andi_all _ _ _ _ _ hg (ix2 b n)) ha,
    fun n => rangeBit_at x2 n (Host.reduce_andi_all _ _ _ _ _ hr (ix1 n))⟩

end Cert.Pre_gates_unclipped

end
-- ==== Proof.Results.lean ====
/-
  Under the precondition the kernel's two results are the reference's, on equal arguments.
-/
module

public import proofs.«01_k».proof.Proof.KernelValue
public import proofs.«01_k».proof.Proof.PreValue

@[expose] public section

set_option maxRecDepth 16384

noncomputable section

open Idealize.ShloMosaic Idealize.ShloMosaic.TcCoe Idealize.SL.Sem

namespace Cert.Results

open Cert.KernelIdeal Cert.KernelIdeal.Value Cert.Spec

variable (m : (ℓ : Loc nD τ sig) → Buf (Elt Ideal) ℓ) (c : Dev nD)

/-- Two bits with equivalent set-ness are equal. -/
theorem bit_ext {x y : BitVec 1} (h : x = 1#1 ↔ y = 1#1) : x = y := by
  by_cases hx : x = 1#1
  · rw [hx, h.1 hx]
  · rw [ValueIdx.eq_zero_of_ne_one hx, ValueIdx.eq_zero_of_ne_one fun hy => hx (h.2 hy)]

variable (hp : Cert.Pre_gates_unclipped.fn (F := Ideal) (X0 m c) (X1 m c) (X2 m c) (X3 m c) (X4 m c) (X5 m c) (X6 m c) = fun _ => 1#1)

include hp

/-- A member's gate lies in the clamp's range. -/
theorem member_gate (b : Fin 16) (p : Fin 128) (n : Fin 8192) (h : mem m c b p n) :
    ((-40 : ℝ) : EReal) ≤ gates m c b n ∧ gates m c b n ≤ ((40 : ℝ) : EReal) :=
  (Cert.Pre_gates_unclipped.of_fn _ _ _ _ _ _ _ hp).1 b n h.1

/-- The channel tokens agree. -/
theorem tokens_eq : Cert.ReferenceIdeal.Read.val_main_v35 (F := Ideal) (X0 m c) (X1 m c) (X2 m c) (X3 m c) (X4 m c) (X5 m c) (X6 m c)
    = (tokensArr m c : FVec Ideal S16x128x128 .f32) := by
  obtain ⟨hg, hr⟩ := Cert.Pre_gates_unclipped.of_fn _ _ _ _ _ _ _ hp
  obtain ⟨ε, hf, h0, h1⟩ := floor_real
  funext i
  obtain ⟨b, p, h, rfl⟩ : ∃ b p h, i = ix3 b p h := ⟨i 0, i 1, i 2, eq_ix3 i⟩
  refine (Cert.ReferenceIdeal.Value.tokens_at _ _ _ _ _ _ _ b p h).trans (Eq.trans ?_ (tokensArr_at m c hg hr b p h).symm)
  rw [hf]
  exact (Softmax.pooled_eq (member_gate m c hp b p) low_lt h0 h1 fun n => X0 m c (ix3 b n h)).symm

/-- The channels' activity agrees. -/
theorem active_eq : Cert.ReferenceIdeal.Read.val_main_v36 (F := Ideal) (X1 m c) (X2 m c) = (activeRes m c : IVec S16x128 1) := by
  obtain ⟨hg, hr⟩ := Cert.Pre_gates_unclipped.of_fn _ _ _ _ _ _ _ hp
  funext i
  obtain ⟨b, p, rfl⟩ : ∃ b p, i = ix2 b p := ⟨i 0, i 1, eq_ix2 i⟩
  refine bit_ext ((Cert.ReferenceIdeal.Value.active_at _ _ b p).trans (Iff.trans ?_ (activeRes_at m c hg hr b p).symm))
  exact (Softmax.total_pos (member_gate m c hp b p)).symm

end Cert.Results

end
-- ==== Proof.lean ====
/-
  Every claim: the three programs run, leave their arguments and every semaphore as they were, and under the
  precondition the kernel's two results are the reference's over the extended reals.
-/
module

public import proofs.«01_k».proof.Defs
public import proofs.«01_k».proof.Proof.Results
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The kernel's run and frame at the machine's floats. -/
theorem kernel_quiescent : Cert.quiescent_Kernel (hKernel := Cert.Kernel.Gen.facts) :=
  fun m ρ _ => Cert.Kernel.Gen.frame m ρ

/-- The idealized kernel's run and frame. -/
theorem ideal_quiescent : Cert.quiescent_KernelIdeal (hKernelIdeal := Cert.KernelIdeal.Gen.facts) :=
  fun m ρ _ => Cert.KernelIdeal.Gen.frame m ρ

/-- The reference's run and frame. -/
theorem reference_quiescent : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel's results are the reference's. -/
theorem algebraic : Cert.algebraic_KernelIdeal_ReferenceIdeal_pre_gates_unclipped (hKernelIdeal := Cert.KernelIdeal.Gen.facts)
    (hReferenceIdeal := Cert.ReferenceIdeal.Gen.facts) (hPre_gates_unclipped := Cert.Pre_gates_unclipped.facts) := by
  intro m g m' g' hp hm
  refine ⟨Cert.KernelIdeal.Value.tokensArr m, Cert.KernelIdeal.Value.activeRes m, Cert.KernelIdeal.Value.run m g, ?_⟩
  refine (θ_run Cert.ReferenceIdeal.defs _ _).mono (fun r h c => ?_) (Cert.ReferenceIdeal.Value.run (F := Ideal) m' g')
  obtain ⟨e0, e1, e2, e3, e4, e5, e6⟩ := hm c
  obtain ⟨r0, r1, rest⟩ := h c
  refine ⟨r0.trans ?_, r1.trans ?_, rest⟩
  · refine (Cert.ReferenceIdeal.Read.val_main_v35_eq m' c).trans ?_
    rw [e0, e1, e2, e3, e4, e5, e6]
    exact Cert.Results.tokens_eq m c (hp c)
  · refine (Cert.ReferenceIdeal.Read.val_main_v36_eq (F := Ideal) _ _).trans ?_
    rw [e1, e2]
    exact Cert.Results.active_eq m c (hp c)

/-- Everything this certificate claims. -/
theorem claim : Cert.Claim :=
  ⟨Cert.Kernel.Gen.facts, Cert.KernelIdeal.Gen.facts, Cert.ReferenceIdeal.Gen.facts, Cert.Pre_gates_unclipped.facts,
    kernel_quiescent, ideal_quiescent, fun m ρ _ => ideal_quiescent m ρ trivial, reference_quiescent,
    fun m ρ _ => reference_quiescent m ρ trivial, trivial, algebraic⟩

end Cert.Proof

end
